-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attendable_KernelIdeal [hPre_attendable_KernelIdeal : Cert.Pre_attendable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_attendable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_attendable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_attendable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_attendable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attendable_ReferenceIdeal [hPre_attendable_ReferenceIdeal : Cert.Pre_attendable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attendable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_attendable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_attendable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_attendable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_attendable_KernelIdeal [hKernelIdeal : Cert.KernelIdeal.Facts] [hPre_attendable_KernelIdeal : Cert.Pre_attendable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attendable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_attendable_ReferenceIdeal [hReferenceIdeal : Cert.ReferenceIdeal.Facts] [hPre_attendable_ReferenceIdeal : Cert.Pre_attendable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attendable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_attendable_KernelIdeal [hKernelIdeal : Cert.KernelIdeal.Facts] [hReferenceIdeal : Cert.ReferenceIdeal.Facts] [hPre_attendable_KernelIdeal : Cert.Pre_attendable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attendable_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![128, 16, 16, 64]⟩ ⟨4, ![256, 16, 16, 64]⟩ (Layout.meshBlock [2, 2, 2] ![[0], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![128, 16, 16, 64]⟩ ⟨4, ![256, 16, 16, 64]⟩ (Layout.meshBlock [2, 2, 2] ![[0], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_attendable_KernelIdeal : Cert.Pre_attendable_KernelIdeal.Facts) (hPre_attendable_ReferenceIdeal : Cert.Pre_attendable_ReferenceIdeal.Facts),
    quiescent_Kernel (hKernel := hKernel)
    ∧ quiescent_KernelIdeal (hKernelIdeal := hKernelIdeal)
    ∧ quiescent_KernelIdeal_pre_attendable_KernelIdeal (hKernelIdeal := hKernelIdeal) (hPre_attendable_KernelIdeal := hPre_attendable_KernelIdeal)
    ∧ quiescent_ReferenceIdeal (hReferenceIdeal := hReferenceIdeal)
    ∧ quiescent_ReferenceIdeal_pre_attendable_ReferenceIdeal (hReferenceIdeal := hReferenceIdeal) (hPre_attendable_ReferenceIdeal := hPre_attendable_ReferenceIdeal)
    ∧ preserves_Kernel_KernelIdeal
    ∧ algebraic_KernelIdeal_ReferenceIdeal_pre_attendable_KernelIdeal (hKernelIdeal := hKernelIdeal) (hReferenceIdeal := hReferenceIdeal) (hPre_attendable_KernelIdeal := hPre_attendable_KernelIdeal)
-- ==== Pre_attendable_KernelIdeal.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S128 : Shape := ⟨1, ![128]⟩
abbrev S1x128 : Shape := ⟨2, ![1, 128]⟩
abbrev S16x1 : Shape := ⟨2, ![16, 1]⟩
abbrev S_ : Shape := ⟨0, ![]⟩

class Facts : Prop where
  bcast_S128_S1x128_1 : S128.BroadcastsInDim S1x128 (![1] : Fin 1 → Fin S1x128.rank)
  bcast_S16_S16x1_0 : S16.BroadcastsInDim S16x1 (![0] : Fin 1 → Fin S16x1.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  bcast_S_S16x1x16x64 : S_.BroadcastsInDim S16x1x16x64 (![] : Fin 0 → Fin S16x1x16x64.rank)
  bcast_S_S128x16x16x64 : S_.BroadcastsInDim S128x16x16x64 (![] : Fin 0 → Fin S128x16x16x64.rank)
  bcast_S_S16 : S_.BroadcastsInDim S16 (![] : Fin 0 → Fin S16.rank)
  bcast_S_S16x128 : S_.BroadcastsInDim S16x128 (![] : Fin 0 → Fin S16x128.rank)

variable [Facts]

def fn_part1 {F : FTy → Type} [FloatOps F] (main_v8 : IVec S16x1x16x64 1) (main_v11 : IVec S128x16x16x64 1) (main_v13 : IVec S16 1) (main_v14 : IVec S16x128 1) (main_v16 : IVec S16x128 1) (main_v18 : IVec S16x128 1) : IVec S16x1x16x64 1 × IVec S128x16x16x64 1 × IVec S16 1 × IVec S16x128 1 :=
  let main_v19 : IVec S16x128 1 := andi main_v16 main_v18
  let main_v20 : IVec S16x128 1 := ori main_v14 main_v19
  (main_v8, main_v11, main_v13, main_v20)

def fn {F : FTy → Type} [FloatOps F] (main_arg0 : FVec F S16x1x16x64 .f32) (main_arg1 : FVec F S128x16x16x64 .f32) (main_arg2 : FVec F S128x16x16x64 .f32) (main_arg3 : IVec S16x128 32) (main_arg4 : IVec S16 32) : IVec S16x1x16x64 1 × IVec S128x16x16x64 1 × IVec S16 1 × IVec S16x128 1 :=
  let main_v0 : IVec S128 32 := iotaInDim S128 32 0
  let main_v1 : IVec S1x128 32 := broadcastInDim S1x128 ![1] bcast_S128_S1x128_1 main_v0
  let main_v2 : IVec S16x1 32 := broadcastInDim S16x1 ![0] bcast_S16_S16x1_0 main_arg4
  let main_v3 : IVec S16x128 32 := broadcastInDim S16x128 ![0, 1] bcast_S1x128_S16x128_0_1 main_v1
  let main_v4 : IVec S16x128 32 := broadcastInDim S16x128 ![0, 1] bcast_S16x1_S16x128_0_1 main_v2
  let main_v5 : IVec S16x128 1 := cmpi .slt main_v3 main_v4
  let main_v6 : FVec F S16x1x16x64 .f32 := Host.absf main_arg0
  let main_cst : FVec F S_ .f32 := constant S_ .f32 0x7F800000#32
  let main_v7 : FVec F S16x1x16x64 .f32 := broadcastInDim S16x1x16x64 ![] bcast_S_S16x1x16x64 main_cst
  let main_v8 : IVec S16x1x16x64 1 := cmpf .olt main_v6 main_v7
  let main_v9 : FVec F S128x16x16x64 .f32 := Host.absf main_arg1
  let main_cst_0 : FVec F S_ .f32 := constant S_ .f32 0x7F800000#32
  let main_v10 : FVec F S128x16x16x64 .f32 := broadcastInDim S128x16x16x64 ![] bcast_S_S128x16x16x64 main_cst_0
  let main_v11 : IVec S128x16x16x64 1 := cmpf .olt main_v9 main_v10
  let main_c : IVec S_ 32 := constantI S_ 32 1#32
  let main_v12 : IVec S16 32 := broadcastInDim S16 ![] bcast_S_S16 main_c
  let main_v13 : IVec S16 1 := cmpi .sge main_arg4 main_v12
  let main_v14 : IVec S16x128 1 := noti main_v5
  let main_c_1 : IVec S_ 32 := constantI S_ 32 0#32
  let main_v15 : IVec S16x128 32 := broadcastInDim S16x128 ![] bcast_S_S16x128 main_c_1
  let main_v16 : IVec S16x128 1 := cmpi .sge main_arg3 main_v15
  let main_c_2 : IVec S_ 32 := constantI S_ 32 256#32
  let main_v17 : IVec S16x128 32 := broadcastInDim S16x128 ![] bcast_S_S16x128 main_c_2
  let main_v18 : IVec S16x128 1 := cmpi .slt main_arg3 main_v17
  fn_part1 (F := F) main_v8 main_v11 main_v13 main_v14 main_v16 main_v18
-- ==== Pre_attendable_ReferenceIdeal.lean ====
abbrev S16x1x16x64 : Shape := ⟨4, ![16, 1, 16, 64]⟩
abbrev S256x16x16x64 : Shape := ⟨4, ![256, 16, 16, 64]⟩
abbrev S16x128 : Shape := ⟨2, ![16, 128]⟩
abbrev S16 : Shape := ⟨1, ![16]⟩
abbrev S128 : Shape := ⟨1, ![128]⟩
abbrev S1x128 : Shape := ⟨2, ![1, 128]⟩
abbrev S16x1 : Shape := ⟨2, ![16, 1]⟩
abbrev S_ : Shape := ⟨0, ![]⟩

class Facts : Prop where
  bcast_S128_S1x128_1 : S128.BroadcastsInDim S1x128 (![1] : Fin 1 → Fin S1x128.rank)
  bcast_S16_S16x1_0 : S16.BroadcastsInDim S16x1 (![0] : Fin 1 → Fin S16x1.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  bcast_S_S16x1x16x64 : S_.BroadcastsInDim S16x1x16x64 (![] : Fin 0 → Fin S16x1x16x64.rank)
  bcast_S_S256x16x16x64 : S_.BroadcastsInDim S256x16x16x64 (![] : Fin 0 → Fin S256x16x16x64.rank)
  bcast_S_S16 : S_.BroadcastsInDim S16 (![] : Fin 0 → Fin S16.rank)
  bcast_S_S16x128 : S_.BroadcastsInDim S16x128 (![] : Fin 0 → Fin S16x128.rank)

variable [Facts]

def fn_part1 {F : FTy → Type} [FloatOps F] (main_v8 : IVec S16x1x16x64 1) (main_v11 : IVec S256x16x16x64 1) (main_v13 : IVec S16 1) (main_v14 : IVec S16x128 1) (main_v16 : IVec S16x128 1) (main_v18 : IVec S16x128 1) : IVec S16x1x16x64 1 × IVec S256x16x16x64 1 × IVec S16 1 × IVec S16x128 1 :=
  let main_v19 : IVec S16x128 1 := andi main_v16 main_v18
  let main_v20 : IVec S16x128 1 := ori main_v14 main_v19
  (main_v8, main_v11, main_v13, main_v20)

def fn {F : FTy → Type} [FloatOps F] (main_arg0 : FVec F S16x1x16x64 .f32) (main_arg1 : FVec F S256x16x16x64 .f32) (main_arg2 : FVec F S256x16x16x64 .f32) (main_arg3 : IVec S16x128 32) (main_arg4 : IVec S16 32) : IVec S16x1x16x64 1 × IVec S256x16x16x64 1 × IVec S16 1 × IVec S16x128 1 :=
  let main_v0 : IVec S128 32 := iotaInDim S128 32 0
  let main_v1 : IVec S1x128 32 := broadcastInDim S1x128 ![1] bcast_S128_S1x128_1 main_v0
  let main_v2 : IVec S16x1 32 := broadcastInDim S16x1 ![0] bcast_S16_S16x1_0 main_arg4
  let main_v3 : IVec S16x128 32 := broadcastInDim S16x128 ![0, 1] bcast_S1x128_S16x128_0_1 main_v1
  let main_v4 : IVec S16x128 32 := broadcastInDim S16x128 ![0, 1] bcast_S16x1_S16x128_0_1 main_v2
  let main_v5 : IVec S16x128 1 := cmpi .slt main_v3 main_v4
  let main_v6 : FVec F S16x1x16x64 .f32 := Host.absf main_arg0
  let main_cst : FVec F S_ .f32 := constant S_ .f32 0x7F800000#32
  let main_v7 : FVec F S16x1x16x64 .f32 := broadcastInDim S16x1x16x64 ![] bcast_S_S16x1x16x64 main_cst
  let main_v8 : IVec S16x1x16x64 1 := cmpf .olt main_v6 main_v7
  let main_v9 : FVec F S256x16x16x64 .f32 := Host.absf main_arg1
  let main_cst_0 : FVec F S_ .f32 := constant S_ .f32 0x7F800000#32
  let main_v10 : FVec F S256x16x16x64 .f32 := broadcastInDim S256x16x16x64 ![] bcast_S_S256x16x16x64 main_cst_0
  let main_v11 : IVec S256x16x16x64 1 := cmpf .olt main_v9 main_v10
  let main_c : IVec S_ 32 := constantI S_ 32 1#32
  let main_v12 : IVec S16 32 := broadcastInDim S16 ![] bcast_S_S16 main_c
  let main_v13 : IVec S16 1 := cmpi .sge main_arg4 main_v12
  let main_v14 : IVec S16x128 1 := noti main_v5
  let main_c_1 : IVec S_ 32 := constantI S_ 32 0#32
  let main_v15 : IVec S16x128 32 := broadcastInDim S16x128 ![] bcast_S_S16x128 main_c_1
  let main_v16 : IVec S16x128 1 := cmpi .sge main_arg3 main_v15
  let main_c_2 : IVec S_ 32 := constantI S_ 32 256#32
  let main_v17 : IVec S16x128 32 := broadcastInDim S16x128 ![] bcast_S_S16x128 main_c_2
  let main_v18 : IVec S16x128 1 := cmpi .slt main_arg3 main_v17
  fn_part1 (F := F) main_v8 main_v11 main_v13 main_v14 main_v16 main_v18
-- ==== Kernel.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S16x16x64 : Shape := ⟨3, ![16, 16, 64]⟩
abbrev S2048x16x64 : Shape := ⟨3, ![2048, 16, 64]⟩
abbrev S16x2048x64 : Shape := ⟨3, ![16, 2048, 64]⟩
abbrev S16x1 : Shape := ⟨2, ![16, 1]⟩
abbrev S2x16x16 : Shape := ⟨3, ![2, 16, 16]⟩
abbrev S2 : Shape := ⟨1, ![2]⟩
abbrev S_ : Shape := ⟨0, ![]⟩
abbrev S16x128x128 : Shape := ⟨3, ![16, 128, 128]⟩
abbrev S16x1x128 : Shape := ⟨3, ![16, 1, 128]⟩
abbrev S16x1x1 : Shape := ⟨3, ![16, 1, 1]⟩
abbrev S16x128x1 : Shape := ⟨3, ![16, 128, 1]⟩
abbrev S16x128x16 : Shape := ⟨3, ![16, 128, 16]⟩
abbrev S16x2048 : Shape := ⟨2, ![16, 2048]⟩
abbrev S1x16x64 : Shape := ⟨3, ![1, 16, 64]⟩
abbrev S16x64 : Shape := ⟨2, ![16, 64]⟩
abbrev S1x2048x64 : Shape := ⟨3, ![1, 2048, 64]⟩
abbrev S2048x64 : Shape := ⟨2, ![2048, 64]⟩
abbrev S16x16 : Shape := ⟨2, ![16, 16]⟩
abbrev S1x16x16 : Shape := ⟨3, ![1, 16, 16]⟩
abbrev S1 : Shape := ⟨1, ![1]⟩
abbrev S16x16x1 : Shape := ⟨3, ![16, 16, 1]⟩

abbrev nBuf : Space → Nat
  | .hbm => 18
  | .vmem => 10
  | .smem => 0
  | _ => 0

abbrev bufTy : (tb : Table) → Fin (tcTables nBuf tb) → BufTy
  | .hbm, ⟨0, _⟩ => ⟨S16x1x16x64, .f32⟩
  | .hbm, ⟨1, _⟩ => ⟨S128x16x16x64, .f32⟩
  | .hbm, ⟨2, _⟩ => ⟨S128x16x16x64, .f32⟩
  | .hbm, ⟨3, _⟩ => ⟨S16x128, .i32⟩
  | .hbm, ⟨4, _⟩ => ⟨S16, .i32⟩
  | .hbm, ⟨5, _⟩ => ⟨S16x16x64, .f32⟩
  | .hbm, ⟨6, _⟩ => ⟨S16x16x64, .f32⟩
  | .hbm, ⟨7, _⟩ => ⟨S16x16x64, .bf16⟩
  | .hbm, ⟨8, _⟩ => ⟨S2048x16x64, .f32⟩
  | .hbm, ⟨9, _⟩ => ⟨S16x2048x64, .f32⟩
  | .hbm, ⟨10, _⟩ => ⟨S16x2048x64, .bf16⟩
  | .hbm, ⟨11, _⟩ => ⟨S2048x16x64, .f32⟩
  | .hbm, ⟨12, _⟩ => ⟨S16x2048x64, .f32⟩
  | .hbm, ⟨13, _⟩ => ⟨S16x2048x64, .bf16⟩
  | .hbm, ⟨14, _⟩ => ⟨S16x1, .i32⟩
  | .hbm, ⟨15, _⟩ => ⟨S16x16x64, .f32⟩
  | .hbm, ⟨16, _⟩ => ⟨S16x16x64, .f32⟩
  | .hbm, ⟨17, _⟩ => ⟨S16x1x16x64, .f32⟩
  | .local _ .vmem, ⟨0, _⟩ => ⟨S16x16x64, .bf16⟩
  | .local _ .vmem, ⟨1, _⟩ => ⟨S16x2048x64, .bf16⟩
  | .local _ .vmem, ⟨2, _⟩ => ⟨S16x2048x64, .bf16⟩
  | .local _ .vmem, ⟨3, _⟩ => ⟨S16x128, .i32⟩
  | .local _ .vmem, ⟨4, _⟩ => ⟨S16x1, .i32⟩
  | .local _ .vmem, ⟨5, _⟩ => ⟨S16x16x64, .f32⟩
  | .local _ .vmem, ⟨6, _⟩ => ⟨S16x16x64, .f32⟩
  | .local _ .vmem, ⟨7, _⟩ => ⟨S2x16x16, .f32⟩
  | .local _ .vmem, ⟨8, _⟩ => ⟨S16x16x64, .f32⟩
  | .local _ .vmem, ⟨9, _⟩ => ⟨S2x16x16, .f32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_295 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_294 : BitVec 32 := 4#32
  let v434 : BitVec 32 := Scalar.muli v9 c4_i32_294
  let v435 : BitVec 32 := Scalar.addi c0_i32_295 v434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_296 : BitVec 32 := 2#32
  let v436 : BitVec 32 := Scalar.muli v5 c2_i32_296
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_297 : BitVec 32 := 1#32
  let v438 : BitVec 32 := Scalar.muli v8 c1_i32_297
  let v439 : BitVec 32 := Scalar.addi v437 v438
  v439.toNat
def k0_dev3 (d0 : Dev nD) : Nat :=
  let c0_i32_301 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_300 : BitVec 32 := 4#32
  let v444 : BitVec 32 := Scalar.muli v9 c4_i32_300
  let v445 : BitVec 32 := Scalar.addi c0_i32_301 v444
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_302 : BitVec 32 := 2#32
  let v446 : BitVec 32 := Scalar.muli v5 c2_i32_302
  let v447 : BitVec 32 := Scalar.addi v445 v446
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_303 : BitVec 32 := 1#32
  let v448 : BitVec 32 := Scalar.muli v8 c1_i32_303
  let v449 : BitVec 32 := Scalar.addi v447 v448
  v449.toNat
abbrev stage0_0 : Fin 1 → Memref sig .tc .vmem S16x16x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16x1x16x64 : Shape := ⟨4, ![16, 1, 16, 64]⟩
abbrev S256x16x16x64 : Shape := ⟨4, ![256, 16, 16, 64]⟩
abbrev S16x128 : Shape := ⟨2, ![16, 128]⟩
abbrev S16 : Shape := ⟨1, ![16]⟩
abbrev S_ : Shape := ⟨0, ![]⟩
abbrev S16x128x1 : Shape := ⟨3, ![16, 128, 1]⟩
abbrev S16x128x16x16x64 : Shape := ⟨5, ![16, 128, 16, 16, 64]⟩
abbrev S16x2048x16x64 : Shape := ⟨4, ![16, 2048, 16, 64]⟩
abbrev S16x16x1x2048 : Shape := ⟨4, ![16, 16, 1, 2048]⟩
abbrev S128 : Shape := ⟨1, ![128]⟩
abbrev S1x128 : Shape := ⟨2, ![1, 128]⟩
abbrev S16x1 : Shape := ⟨2, ![16, 1]⟩
abbrev S16x128x16 : Shape := ⟨3, ![16, 128, 16]⟩
abbrev S16x2048 : Shape := ⟨2, ![16, 2048]⟩
abbrev S16x1x1x2048 : Shape := ⟨4, ![16, 1, 1, 2048]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 56
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S256x16x16x64, .f32⟩
  | .hbm, ⟨2, _⟩ => ⟨S256x16x16x64, .f32⟩
  | .hbm, ⟨3, _⟩ => ⟨S16x128, .i32⟩
  | .hbm, ⟨4, _⟩ => ⟨S16, .i32⟩
  | .hbm, ⟨5, _⟩ => ⟨S_, .i32⟩
  | .hbm, ⟨6, _⟩ => ⟨S16x128, .i32⟩
  | .hbm, ⟨7, _⟩ => ⟨S16x128, .i1⟩
  | .hbm, ⟨8, _⟩ => ⟨S_, .i32⟩
  | .hbm, ⟨9, _⟩ => ⟨S16x128, .i32⟩
  | .hbm, ⟨10, _⟩ => ⟨S16x128, .i32⟩
  | .hbm, ⟨11, _⟩ => ⟨S16x128, .i32⟩
  | .hbm, ⟨12, _⟩ => ⟨S16x128x1, .i32⟩
  | .hbm, ⟨13, _⟩ => ⟨S16x128x16x16x64, .f32⟩
  | .hbm, ⟨14, _⟩ => ⟨S16x2048x16x64, .f32⟩
  | .hbm, ⟨15, _⟩ => ⟨S_, .i32⟩
  | .hbm, ⟨16, _⟩ => ⟨S16x128, .i32⟩
  | .hbm, ⟨17, _⟩ => ⟨S16x128, .i1⟩
  | .hbm, ⟨18, _⟩ => ⟨S_, .i32⟩
  | .hbm, ⟨19, _⟩ => ⟨S16x128, .i32⟩
  | .hbm, ⟨20, _⟩ => ⟨S16x128, .i32⟩
  | .hbm, ⟨21, _⟩ => ⟨S16x128, .i32⟩
  | .hbm, ⟨22, _⟩ => ⟨S16x128x1, .i32⟩
  | .hbm, ⟨23, _⟩ => ⟨S16x128x16x16x64, .f32⟩
  | .hbm, ⟨24, _⟩ => ⟨S16x2048x16x64, .f32⟩
  | .hbm, ⟨25, _⟩ => ⟨S16x16x1x2048, .f32⟩
  | .hbm, ⟨26, _⟩ => ⟨S_, .f32⟩
  | .hbm, ⟨27, _⟩ => ⟨S16x16x1x2048, .f32⟩
  | .hbm, ⟨28, _⟩ => ⟨S16x16x1x2048, .f32⟩
  | .hbm, ⟨29, _⟩ => ⟨S128, .i32⟩
  | .hbm, ⟨30, _⟩ => ⟨S1x128, .i32⟩
  | .hbm, ⟨31, _⟩ => ⟨S16x1, .i32⟩
  | .hbm, ⟨32, _⟩ => ⟨S16x128, .i32⟩
  | .hbm, ⟨33, _⟩ => ⟨S16x128, .i32⟩
  | .hbm, ⟨34, _⟩ => ⟨S16x128, .i1⟩
  | .hbm, ⟨35, _⟩ => ⟨S16x128x16, .i1⟩
  | .hbm, ⟨36, _⟩ => ⟨S16x2048, .i1⟩
  | .hbm, ⟨37, _⟩ => ⟨S16x1x1x2048, .i1⟩
  | .hbm, ⟨38, _⟩ => ⟨S_, .f32⟩
  | .hbm, ⟨39, _⟩ => ⟨S_, .f32⟩
  | .hbm, ⟨40, _⟩ => ⟨S16x16x1x2048, .i1⟩
  | .hbm, ⟨41, _⟩ => ⟨S16x16x1x2048, .f32⟩
  | .hbm, ⟨42, _⟩ => ⟨S16x16x1x2048, .f32⟩
  | .hbm, ⟨43, _⟩ => ⟨S_, .f32⟩
  | .hbm, ⟨44, _⟩ => ⟨S16x16x1, .f32⟩
  | .hbm, ⟨45, _⟩ => ⟨S16x16x1x1, .f32⟩
  | .hbm, ⟨46, _⟩ => ⟨S16x16x1x2048, .f32⟩
  | .hbm, ⟨47, _⟩ => ⟨S16x16x1x2048, .f32⟩
  | .hbm, ⟨48, _⟩ => ⟨S16x16x1x2048, .f32⟩
  | .hbm, ⟨49, _⟩ => ⟨S_, .f32⟩
  | .hbm, ⟨50, _⟩ => ⟨S16x16x1, .f32⟩
  | .hbm, ⟨51, _⟩ => ⟨S16x16x1x1, .f32⟩
  | .hbm, ⟨52, _⟩ => ⟨S16x16x1x2048, .f32⟩
  | .hbm, ⟨53, _⟩ => ⟨S16x16x1x2048, .f32⟩
  | .hbm, ⟨54, _⟩ => ⟨S16x16x64x1, .f32⟩
  | .hbm, ⟨55, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.Partial.lean ====
/-
  What one device computes, as closed functions of the blocks it reads.

  A device reads its queries, its half of the pages' keys and values, the block table and the sequence
  lengths. From these it makes, head by head, an unnormalised output together with the row maximum and
  the row sum of the weights; its partner makes the same of the other half of the pages, and the two
  are merged. The names here say what the outgoing buffers and the result hold, for any float model;
  they are stated with the payload of the first head, at the rows of any head.
-/
module

public import proofs.«01_k».proof.Proof.Gen.KernelIdeal
public import proofs.«01_k».proof.Proof.Gen.KernelIdeal.Skeleton
public import Idealize.ShloMosaic.Lib.Pointwise

@[expose] public section

noncomputable section

namespace Cert.KernelIdeal.Paged

open Idealize.ShloMosaic Idealize.ShloMosaic.TcCoe
open Cert.KernelIdeal.Gen

variable {F : FTy → Type} [FloatOps F]

/-- The five blocks one device reads: queries by head, keys and values by head, the block table, the lengths. -/
structure Blocks (F : FTy → Type) where
  q : Vec F S16x16x64 .bf16
  k : Vec F S16x2048x64 .bf16
  v : Vec F S16x2048x64 .bf16
  bt : Vec F S16x128 .i32
  ln : Vec F S16x1 .i32

/-- The plane of head `h` lies inside the queries. -/
theorem qIn (h : Fin 16) : ∀ a, (![h.val, 0, 0] : Fin 3 → Nat) a + S1x16x64.size a ≤ S16x16x64.size a := by
  revert h; decide
/-- The plane of head `h` lies inside the keys. -/
theorem kIn (h : Fin 16) : ∀ a, (![h.val, 0, 0] : Fin 3 → Nat) a + S1x2048x64.size a ≤ S16x2048x64.size a := by
  revert h; decide
/-- Plane `r` lies inside the pair of statistics. -/
theorem mlIn (r : Fin 2) : ∀ a, (![r.val, 0, 0] : Fin 3 → Nat) a + S1x16x16.size a ≤ S2x16x16.size a := by
  revert r; decide

/-- Head `h`'s plane of the queries, of the outputs. -/
abbrev qRect (h : Fin 16) : Rect S16x16x64 := Rect.unit (s := S16x16x64) ![h.val, 0, 0] S1x16x64.size (qIn h)
/-- Head `h`'s plane of the keys, of the values. -/
abbrev kRect (h : Fin 16) : Rect S16x2048x64 := Rect.unit (s := S16x2048x64) ![h.val, 0, 0] S1x2048x64.size (kIn h)
/-- Plane `r` of the statistics: 0 the maxima, 1 the sums. -/
abbrev mlRect (r : Fin 2) : Rect S2x16x16 := Rect.unit (s := S2x16x16) ![r.val, 0, 0] S1x16x16.size (mlIn r)

/-- Head `h`'s queries, as the staging buffer is read. -/
def qRow (x : Vec F S16x16x64 .bf16) (h : Fin 16) : Vec F S1x16x64 .bf16 :=
  View.readAt (Elt F) (Memref.whole cc0_stg0_0).view (qRect h).toLoadRect x
/-- Head `h`'s keys. -/
def kRow (x : Vec F S16x2048x64 .bf16) (h : Fin 16) : Vec F S1x2048x64 .bf16 :=
  View.readAt (Elt F) (Memref.whole cc0_stg1_0).view (kRect h).toLoadRect x
/-- Head `h`'s values. -/
def vRow (x : Vec F S16x2048x64 .bf16) (h : Fin 16) : Vec F S1x2048x64 .bf16 :=
  View.readAt (Elt F) (Memref.whole cc0_stg2_0).view (kRect h).toLoadRect x
/-- The whole block table, the whole column of lengths, as their staging buffers are read. -/
def btAll (x : Vec F S16x128 .i32) : Vec F S16x128 .i32 :=
  View.readAt (Elt F) (Memref.whole cc0_stg3_0).view (Rect.unit (s := S16x128) ![0, 0] S16x128.size inb_S16x128_S16x128_0_0).toLoadRect x
def lnAll (x : Vec F S16x1 .i32) : Vec F S16x1 .i32 :=
  View.readAt (Elt F) (Memref.whole cc0_stg4_0).view (Rect.unit (s := S16x1) ![0, 0] S16x1.size inb_S16x1_S16x1_0_0).toLoadRect x

/-- Plane `r` of a pair of statistics. -/
def mlRow (x : Vec F S2x16x16 .f32) (r : Fin 2) : Vec F S1x16x16 .f32 :=
  View.readAt (Elt F) (Memref.whole cc0_scratch1).view (mlRect r).toLoadRect x

theorem qRow_apply (x : Vec F S16x16x64 .bf16) (h : Fin 16) (i : S1x16x64.Idx) : qRow x h i = x ((qRect h).emb i) := rfl
theorem kRow_apply (x : Vec F S16x2048x64 .bf16) (h : Fin 16) (i : S1x2048x64.Idx) : kRow x h i = x ((kRect h).emb i) := rfl
theorem vRow_apply (x : Vec F S16x2048x64 .bf16) (h : Fin 16) (i : S1x2048x64.Idx) : vRow x h i = x ((kRect h).emb i) := rfl
theorem mlRow_apply (x : Vec F S2x16x16 .f32) (r : Fin 2) (i : S1x16x16.Idx) : mlRow x r i = x ((mlRect r).emb i) := rfl
theorem btAll_eq (x : Vec F S16x128 .i32) : btAll x = x :=
  funext fun i => congrArg x (funext fun a => Fin.ext (by fin_cases a <;> simp [Rect.emb, Rect.unit]))
theorem lnAll_eq (x : Vec F S16x1 .i32) : lnAll x = x :=
  funext fun i => congrArg x (funext fun a => Fin.ext (by fin_cases a <;> simp [Rect.emb, Rect.unit]))

/-- How often each sequence's table names each of the device's pages. -/
def counts (c : Dev nD) (B : Blocks F) : FVec F S16x128x1 .f32 := k0_pay2 c (btAll B.bt) (lnAll B.ln)
/-- Head `h`'s row maxima. -/
def headMax (c : Dev nD) (B : Blocks F) (h : Fin 16) : FVec F S16x1 .f32 :=
  k0_pay6 (counts c B) (qRow B.q h) (kRow B.k h)
/-- Head `h`'s row sums of the weights. -/
def headSum (c : Dev nD) (B : Blocks F) (h : Fin 16) : FVec F S16x1 .f32 :=
  k0_pay8 (counts c B) (qRow B.q h) (kRow B.k h)
/-- Head `h`'s unnormalised output. -/
def headOut (c : Dev nD) (B : Blocks F) (h : Fin 16) : FVec F S1x16x64 .f32 :=
  k0_pay9 (counts c B) (qRow B.q h) (kRow B.k h) (vRow B.v h)

/-- The unnormalised outputs of all heads: what a device sends. -/
def outs (c : Dev nD) (B : Blocks F) : Vec F S16x16x64 .f32 :=
  fun i => headOut c B (i 0) (ix3 0 (i 1) (i 2))
/-- The statistics of all heads: plane 0 the maxima, plane 1 the sums, each by sequence and head. -/
def stats (c : Dev nD) (B : Blocks F) : Vec F S2x16x16 .f32 :=
  fun i => if (i 0).val = 0 then headMax c B (i 2) (ix2 (i 1) 0) else headSum c B (i 2) (ix2 (i 1) 0)

/-- Sixteen columns laid side by side, one per head, as one plane. -/
def stacked (f : Fin 16 → FVec F S16x1 .f32) : FVec F S1x16x16 .f32 :=
  shapeCast S1x16x16
    (concatenate S16x16 1 [⟨S16x1, f 0⟩, ⟨S16x1, f 1⟩, ⟨S16x1, f 2⟩, ⟨S16x1, f 3⟩, ⟨S16x1, f 4⟩, ⟨S16x1, f 5⟩, ⟨S16x1, f 6⟩,
        ⟨S16x1, f 7⟩, ⟨S16x1, f 8⟩, ⟨S16x1, f 9⟩, ⟨S16x1, f 10⟩, ⟨S16x1, f 11⟩, ⟨S16x1, f 12⟩, ⟨S16x1, f 13⟩, ⟨S16x1, f 14⟩,
        ⟨S16x1, f 15⟩]
      concatenates_S16x1_S16x1_S16x1_S16x1_S16x1_S16x1_S16x1_S16x1_S16x1_S16x1_S16x1_S16x1_S16x1_S16x1_S16x1_S16x1_S16x16_d1)
    shapeCasts_S16x16_S1x16x16

omit [FloatOps F] in
/-- Column `h` of the plane is head `h`'s. -/
theorem stacked_apply (f : Fin 16 → FVec F S16x1 .f32) (b h : Fin 16) : stacked f (ix3 0 b h) = f h (ix2 b 0) := by
  unfold stacked
  rw [shapeCast_apply _ _ _ (ix2 b h) (by rw [Shape.rowMajor_val_three, Shape.rowMajor_val_two]; simp)]
  refine concatenate_ofFn_unit_apply (t := S16x16) 1 f _ rfl rfl (ix2 b h) h rfl (ix2 b 0) fun a ha => ?_
  match a, ha with
  | ⟨0, _⟩, _ => rfl
  | ⟨1, _⟩, ha => exact absurd rfl ha

/-- The merge of a device's own outputs and statistics with its partner's. -/
def merged (o : Vec F S16x16x64 .f32) (s : Vec F S2x16x16 .f32) (o' : Vec F S16x16x64 .f32) (s' : Vec F S2x16x16 .f32) :
    Vec F S16x16x64 .f32 :=
  k0_pay1 (k0_pay109 (mlRow s 0) (mlRow s 1) (mlRow s' 0) (mlRow s' 1) o)
    (k0_pay110 (mlRow s 0) (mlRow s 1) (mlRow s' 0) (mlRow s' 1)) o'

end Cert.KernelIdeal.Paged

end
-- ==== Proof.Talk.lean ====
/-
  The protocol of the exchange: which cells there are, what each is paid, what each device owes.

  A device and its partner (the device across the first mesh axis) meet at a barrier, each signalling the
  other once. With the signal a device hands over its two landing buffers, and that its two receive cells
  are open; so a copy starts only when the buffer it lands in is the sender's to write. Each device then
  sends its outputs and its statistics, and waits for both sends and both arrivals. Every cell carries
  one duty, at its first round.
-/
module

public import proofs.«01_k».proof.Proof.Partial
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk

@[expose] public section

noncomputable section

namespace Cert.KernelIdeal.Paged

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

abbrev UU : Type := UR sig nD τ × UR sig nD τ

local notation "𝕄" => MT nD τ sig Unit (Elt F) ℕ UU ℕ

/-- The pipeline library's copy of the round algebra, and the exchange's. -/
abbrev EP : Emb (UR sig nD τ) (MT nD τ sig Unit (Elt F) ℕ UU ℕ) := embL
abbrev ER : Emb (UR sig nD τ) (MT nD τ sig Unit (Elt F) ℕ UU ℕ) := embR

/-! ## Partners -/

/-- The device across the first mesh axis. -/
def mate (c : Dev nD) : Dev nD := ⟨(c.val + 4) % 8, Nat.mod_lt _ (by decide)⟩
theorem mate_mate (c : Dev nD) : mate (mate c) = c := by revert c; decide
/-- Partnership is a bijection of the devices. -/
def mates : Dev nD ≃ Dev nD := ⟨mate, mate, mate_mate, mate_mate⟩
theorem dev1_mate (c : Dev nD) : (⟨k0_dev1 c, k0_dev1_lt c⟩ : Dev nD) = mate c := by
  refine Fin.ext ((k0_dev1_eq c).trans ?_); revert c; decide
theorem dev2_mate (c : Dev nD) : (⟨k0_dev2 c, k0_dev2_lt c⟩ : Dev nD) = mate c := by
  refine Fin.ext ((k0_dev2_eq c).trans ?_); revert c; decide
theorem dev3_mate (c : Dev nD) : (⟨k0_dev3 c, k0_dev3_lt c⟩ : Dev nD) = mate c := by
  refine Fin.ext ((k0_dev3_eq c).trans ?_); revert c; decide

/-! ## The cells, by role -/

/-- The part a semaphore plays: the barrier; the two sends; the two arrivals. -/
inductive Role where
  | bar | sentO | sentS | gotO | gotS
  deriving DecidableEq

/-- The semaphore of each role. -/
def Role.sem : Role → SemLoc sig
  | .bar => .reg barrier0
  | .sentO => .dma 6
  | .sentS => .dma 7
  | .gotO => .dma 8
  | .gotS => .dma 9

/-- The role of each semaphore, if it has one. -/
def roleOf (s : SemLoc sig) : Option Role :=
  if s = .reg barrier0 then some .bar else if s = .dma 6 then some .sentO else if s = .dma 7 then some .sentS
  else if s = .dma 8 then some .gotO else if s = .dma 9 then some .gotS else none

theorem roleOf_sem (p : Role) : roleOf p.sem = some p := by cases p <;> decide
theorem sem_inj {p p' : Role} (h : p.sem = p'.sem) : p = p' :=
  Option.some.inj ((roleOf_sem p).symm.trans ((congrArg roleOf h).trans (roleOf_sem p')))

/-- Device `c`'s cell of a role. -/
abbrev cell (p : Role) (c : Dev nD) : GSem nD τ sig := ((c : Thread nD τ), p.sem)

theorem cell_inj {p p' : Role} {c c' : Dev nD} (h : cell p c = cell p' c') : p = p' ∧ c = c' :=
  ⟨sem_inj (congrArg Prod.snd h), congrArg (fun g : GSem nD τ sig => g.1.1) h⟩

/-! ## The buffers the exchange moves -/

abbrev oSrc : Memref sig .tc .vmem S16x16x64 .f32 := Memref.whole cc0_scratch0
abbrev sSrc : Memref sig .tc .vmem S2x16x16 .f32 := Memref.whole cc0_scratch1
abbrev oDst : Memref sig .tc .vmem S16x16x64 .f32 := Memref.whole cc0_scratch2
abbrev sDst : Memref sig .tc .vmem S2x16x16 .f32 := Memref.whole cc0_scratch3

/-- Device `c` holds memref `M` whole, at contents `f`. -/
abbrev has {s : Shape} {e : EltTy} (M : Memref sig .tc .vmem s e) (c : Dev nD) (f : M.view.ty.Contents (Elt F)) : sProp 𝕄 :=
  M.view.loc (c : Thread nD τ) ↦{fullShare} f
/-- The same, spoken of through the view's own elements, as a copy does. -/
abbrev hasV {s : Shape} {e : EltTy} (M : Memref sig .tc .vmem s e) (c : Dev nD) (f : M.view.ty.Contents (Elt F)) : sProp 𝕄 :=
  M.view.loc (c : Thread nD τ) ↦[M.view.set]{fullShare} f

omit [FloatOps F] in
theorem hasV_eq (b : Ref sig .tc) (hb : b.space = .vmem) (c : Dev nD) (f : b.ty.Contents (Elt F)) :
    (((Memref.whole b).view.loc (c : Thread nD τ) ↦[(Memref.whole b).view.set]{fullShare} f : sProp 𝕄))
      = ((Memref.whole b).view.loc (c : Thread nD τ) ↦{fullShare} f : sProp 𝕄) := by
  rw [show (Memref.whole b).view.set = Finset.univ from View.set_whole _]

/-- A whole copy of one whole buffer onto another of its type leaves the source's contents. -/
theorem landO (f : (cc0_scratch2 : Ref sig .tc).ty.Contents (Elt F)) (g : (cc0_scratch0 : Ref sig .tc).ty.Contents (Elt F)) :
    oDst.view.write (Elt F) f (oSrc.view.read (Elt F) g) Finset.univ = g := by
  show (View.whole cc0_scratch2).write (Elt F) f ((View.whole cc0_scratch0).read (Elt F) g) Finset.univ = g
  rw [View.read_whole]
  exact View.write_whole_univ _ _ _
theorem landS (f : (cc0_scratch3 : Ref sig .tc).ty.Contents (Elt F)) (g : (cc0_scratch1 : Ref sig .tc).ty.Contents (Elt F)) :
    sDst.view.write (Elt F) f (sSrc.view.read (Elt F) g) Finset.univ = g := by
  show (View.whole cc0_scratch3).write (Elt F) f ((View.whole cc0_scratch1).read (Elt F) g) Finset.univ = g
  rw [View.read_whole]
  exact View.write_whole_univ _ _ _

/-! ## The schedule -/

/-- What a copy of the outputs, of the statistics, counts. -/
abbrev nO : ℕ := (oDst : Memref sig .tc .vmem S16x16x64 .f32).view.dmaCredit
abbrev nS : ℕ := (sDst : Memref sig .tc .vmem S2x16x16 .f32).view.dmaCredit

/-- What each role's one duty amounts to. -/
def Role.units : Role → ℕ
  | .bar => 1
  | .sentO => nO
  | .sentS => nS
  | .gotO => nO
  | .gotS => nS

theorem units_pos (p : Role) : 0 < p.units := by
  cases p
  · exact Nat.one_pos
  all_goals exact View.dmaCredit_pos _ (by decide)

-- The blocks of every device, as the kernel call finds them.
variable (I : Dev nD → Blocks F)

/-- What device `c`'s cell of each role is paid with. The barrier: the partner's landing buffers, and that the
    partner's receive cells are open. A send: the sent buffer back. An arrival: the landing buffer, holding what the
    partner made. -/
def pay : Role → Dev nD → sProp 𝕄
  | .bar, c => iprop((∃ f, hasV oDst (mate c) f) ∗ (∃ f, hasV sDst (mate c) f)
      ∗ reached ER (cell .gotO (mate c)) 0 ∗ reached ER (cell .gotS (mate c)) 0)
  | .sentO, c => hasV oSrc c (outs c (I c))
  | .sentS, c => hasV sSrc c (stats c (I c))
  | .gotO, c => hasV oDst c (outs (mate c) (I (mate c)))
  | .gotS, c => hasV sDst c (stats (mate c) (I (mate c)))

/-- One duty per cell of a role, at round 0. -/
def plan : Rounds.Schedule (GSem nD τ sig) Unit 𝕄 where
  duties g r := if r = 0 ∧ g.1.2 = .tc ∧ (roleOf g.2).isSome then {()} else ∅
  unitless _ := False
  amount g _ _ := (roleOf g.2).elim 1 Role.units
  payload g _ _ := (roleOf g.2).elim iprop(emp) fun p => pay I p g.1.1
  amount_pos g _ _ _ := by
    cases roleOf g.2 with
    | none => exact Nat.one_pos
    | some p => exact units_pos p

omit [FloatOps F] in
theorem hasV_storable {s : Shape} {e : EltTy} (M : Memref sig .tc .vmem s e) (c : Dev nD) (f : M.view.ty.Contents (Elt F)) :
    BI.Storable (upEmb : UEmb _ 𝕄) (hasV M c f) := inferInstance
omit [FloatOps F] in
theorem open_storable (g : GSem nD τ sig) : BI.Storable (upEmb : UEmb _ 𝕄) (reached (ER (F := F)) g 0) := inferInstance

instance pay_storable (p : Role) (c : Dev nD) : BI.Storable (upEmb : UEmb _ 𝕄) (pay I p c) := by
  have hA := fun f => hasV_storable (F := F) oDst (mate c) f
  have hB := fun f => hasV_storable (F := F) sDst (mate c) f
  have hC := open_storable (F := F) (cell .gotO (mate c))
  have hD := open_storable (F := F) (cell .gotS (mate c))
  cases p with
  | bar =>
    have h1 : BI.Storable (upEmb : UEmb _ 𝕄) iprop(∃ f, hasV (F := F) oDst (mate c) f) := inferInstance
    have h2 : BI.Storable (upEmb : UEmb _ 𝕄) iprop(∃ f, hasV (F := F) sDst (mate c) f) := inferInstance
    dsimp only [pay]
    infer_instance
  | sentO => exact hasV_storable _ _ _
  | sentS => exact hasV_storable _ _ _
  | gotO => exact hasV_storable _ _ _
  | gotS => exact hasV_storable _ _ _

instance plan_storable (g : GSem nD τ sig) (r : ℕ) (d : Unit) :
    BI.Storable (upEmb : UEmb _ 𝕄) ((plan (F := F) I).payload g r d) := by
  show BI.Storable upEmb ((roleOf g.2).elim iprop(emp) fun p => pay I p g.1.1)
  cases roleOf g.2 with
  | none => exact (inferInstance : BI.Storable upEmb (iprop(emp) : sProp 𝕄))
  | some p => exact pay_storable I p g.1.1

theorem duties_at (p : Role) (c : Dev nD) : (plan (F := F) I).duties (cell p c) 0 = {()} := by
  dsimp only [plan]; exact if_pos ⟨rfl, rfl, by rw [roleOf_sem]; rfl⟩
theorem duties_later (g : GSem nD τ sig) : ∀ r, 1 ≤ r → (plan (F := F) I).duties g r = ∅ :=
  fun r hr => by dsimp only [plan]; rw [if_neg (fun h => by omega)]
theorem duty_mem (p : Role) (c : Dev nD) : () ∈ (plan (F := F) I).duties (cell p c) 0 := by
  rw [duties_at]; exact Finset.mem_singleton_self _
theorem amount_at (p : Role) (c : Dev nD) (u : Unit) : (plan (F := F) I).amount (cell p c) 0 u = p.units := by
  dsimp only [plan]; rw [roleOf_sem]; rfl
theorem expect_at (p : Role) (c : Dev nD) : (plan (F := F) I).expect (cell p c) 0 = p.units := by
  unfold Schedule.expect Schedule.amountOf; rw [duties_at, Finset.sum_singleton, amount_at]
theorem payload_at (p : Role) (c : Dev nD) (u : Unit) : (plan (F := F) I).payload (cell p c) 0 u = pay I p c := by
  dsimp only [plan]; rw [roleOf_sem]; rfl
theorem rest_at (p : Role) (c : Dev nD) :
    bigSep ((plan (F := F) I).duties (cell p c) 0 \ ∅) (fun u => (plan (F := F) I).payload (cell p c) 0 u) = pay I p c := by
  rw [Finset.sdiff_empty, duties_at, bigSep_singleton, payload_at]

/-- The same, at a semaphore spelled out. -/
theorem rest_on (p : Role) (s : SemLoc sig) (h : p.sem = s) (c : Dev nD) :
    bigSep ((plan (F := F) I).duties ((c : Thread nD τ), s) 0 \ ∅) (fun u => (plan (F := F) I).payload ((c : Thread nD τ), s) 0 u)
      = pay I p c := by
  subst h; exact rest_at I p c
theorem payload_on (p : Role) (s : SemLoc sig) (h : p.sem = s) (c : Dev nD) (u : Unit) :
    (plan (F := F) I).payload ((c : Thread nD τ), s) 0 u = pay I p c := by
  subst h; exact payload_at I p c u

/-! ## What each device owes at launch; the levels -/

/-- Device `c` owes its partner both arrivals and the barrier's unit. -/
def owedBy (c : Dev nD) : CellTallies nD τ sig Unit :=
  (tallyAt (cell .gotS (mate c)) () nS + tallyAt (cell .gotO (mate c)) () nO) + tallyAt (cell .bar (mate c)) () 1

def L (g : GSem nD τ sig) : Finset Unit := if g.1.2 = .tc then {()} else ∅
/-- The level of each role: the barrier below the arrivals, all else at the bottom. -/
def Role.level : Role → ℕ
  | .bar => 1
  | .gotO => 2
  | .gotS => 2
  | _ => 0
def lv (g : GSem nD τ sig) (_ : Unit) : ℕ := (roleOf g.2).elim 0 Role.level

theorem L_of_ne (g : GSem nD τ sig) (h : g.1.2 ≠ .tc) : L g = ∅ := if_neg h
theorem L_tc (c : Dev nD) (s : SemLoc sig) : L ((c : Thread nD τ), s) = {()} := if_pos rfl
theorem mem_L (p : Role) (c : Dev nD) (u : Unit) : u ∈ L (cell p c) := by rw [L_tc]; exact Finset.mem_singleton_self _
theorem lv_at (p : Role) (c : Dev nD) (u : Unit) : lv (cell p c) u = p.level := by unfold lv; rw [roleOf_sem]; rfl

/-- A unit owed on one cell is owed on that cell only. -/
theorem tally_pos {g g' : GSem nD τ sig} {n : ℕ} {u : Unit} (h : 0 < tallyAt g () n g' u) : g' = g := by
  rw [tallyAt_apply] at h
  split at h
  · next hg => exact hg.1
  · exact absurd h (Nat.lt_irrefl 0)
theorem tally_add_pos {A B : CellTallies nD τ sig Unit} {g : GSem nD τ sig} {u : Unit} (h : 0 < (A + B) g u) :
    0 < A g u ∨ 0 < B g u := by
  rw [Pi.add_apply, Finsupp.add_apply] at h
  exact Nat.add_pos_iff_pos_or_pos.mp h

/-- Waiting at the barrier while both arrivals are owed is allowed: the barrier's level is below theirs. -/
theorem mayWait_bar (c : Dev nD) :
    (levAts L lv : sProp 𝕄) ⊢ MayWait (c : Thread nD τ) (Role.sem .bar) ()
      (tallyAt (cell .gotS (mate c)) () nS + tallyAt (cell .gotO (mate c)) () nO) :=
  MayOwe.of_cut (L := L) (lev := lv) 1 (fun p hp => by rw [Finset.mem_singleton.mp hp]; exact mem_L .bar c ())
    (fun g u hg => by
      rcases tally_add_pos hg with h | h
      · rw [tally_pos h]; exact mem_L .gotS _ u
      · rw [tally_pos h]; exact mem_L .gotO _ u)
    (fun p hp => by rw [Finset.mem_singleton.mp hp]; exact le_of_eq (lv_at .bar c ()))
    (fun g u hg => by
      rcases tally_add_pos hg with h | h
      · rw [tally_pos h, lv_at]; decide
      · rw [tally_pos h, lv_at]; decide)

/-! ## The exchange's ghost state -/

/-- The five cells of device `c`, and the three of its partner's that it pays, at the names `K`. -/
def invs (K : GSem nD τ sig → ℕ) (c : Dev nD) : sProp 𝕄 :=
  iprop((cellInv ER (plan I) (K (cell .bar c)) (cell .bar c) ∗ cellInv ER (plan I) (K (cell .sentO c)) (cell .sentO c)
      ∗ cellInv ER (plan I) (K (cell .sentS c)) (cell .sentS c) ∗ cellInv ER (plan I) (K (cell .gotO c)) (cell .gotO c)
      ∗ cellInv ER (plan I) (K (cell .gotS c)) (cell .gotS c))
    ∗ cellInv ER (plan I) (K (cell .bar (mate c))) (cell .bar (mate c))
    ∗ cellInv ER (plan I) (K (cell .gotO (mate c))) (cell .gotO (mate c))
    ∗ cellInv ER (plan I) (K (cell .gotS (mate c))) (cell .gotS (mate c)))

instance invs_persistent (K : GSem nD τ sig → ℕ) (c : Dev nD) : BI.Persistent (invs I K c) := by unfold invs; infer_instance

/-- The tokens of the five duties device `c` pays. -/
def tokens (c : Dev nD) : sProp 𝕄 :=
  iprop(dutyTok ER (cell .bar (mate c)) 0 () ∗ dutyTok ER (cell .sentO c) 0 () ∗ dutyTok ER (cell .sentS c) 0 ()
    ∗ dutyTok ER (cell .gotO (mate c)) 0 () ∗ dutyTok ER (cell .gotS (mate c)) 0 ())

/-- The right to open the four cells of the call's own semaphores. -/
def rights (c : Dev nD) : sProp 𝕄 :=
  iprop(openTok ER (cell .sentO c) ∗ openTok ER (cell .sentS c) ∗ openTok ER (cell .gotO c) ∗ openTok ER (cell .gotS c))

/-- From launch to the call: the invariants, the barrier's position, the rights, the tokens. -/
def ghost (K : GSem nD τ sig → ℕ) (c : Dev nD) : sProp 𝕄 :=
  iprop(invs I K c ∗ atPos ER (cell .bar c) 0 ∅ 0 ∗ rights c ∗ reached ER (cell .bar (mate c)) 0 ∗ tokens c)

/-- What the device waits with: the barrier's unit and both arrivals, promised by the partner. -/
def credits (c : Dev nD) : sProp 𝕄 :=
  iprop(cred (tallyAt (cell .bar c) () 1) ∗ cred (tallyAt (cell .gotO c) () nO) ∗ cred (tallyAt (cell .gotS c) () nS))

/-- The state once the call's four cells are open. -/
def opened (K : GSem nD τ sig → ℕ) (c : Dev nD) : sProp 𝕄 :=
  iprop(invs I K c
    ∗ (atPos ER (cell .bar c) 0 ∅ 0 ∗ atPos ER (cell .sentO c) 0 ∅ 0 ∗ atPos ER (cell .sentS c) 0 ∅ 0
      ∗ atPos ER (cell .gotO c) 0 ∅ 0 ∗ atPos ER (cell .gotS c) 0 ∅ 0)
    ∗ (reached ER (cell .bar (mate c)) 0 ∗ reached ER (cell .sentO c) 0 ∗ reached ER (cell .sentS c) 0
      ∗ reached ER (cell .gotO c) 0 ∗ reached ER (cell .gotS c) 0)
    ∗ tokens c)

/-- A cell past its one round gives its counter back, at zero. -/
theorem shut (κ : ℕ) (g : GSem nD τ sig) :
    iprop(cellInv ER (plan I) κ g ∗ atPos ER g (0 + 1) ∅ 0) ⊢ (|={Set.univ}=> semVal g 0 : sProp 𝕄) :=
  Rounds.cell_close ER (plan I) (Set.mem_univ κ) id (duties_later I g)

/-- The four counters of the call's own semaphores, at zero. -/
def counters (c : Dev nD) : sProp 𝕄 :=
  iprop(semVal (cell .sentO c) 0 ∗ semVal (cell .sentS c) 0 ∗ semVal (cell .gotO c) 0 ∗ semVal (cell .gotS c) 0)

abbrev 𝒱₀ : Variants := Variants.none

end Cert.KernelIdeal.Paged

end
-- ==== Proof.Body.lean ====
/-
  One device's run of the kernel call: the barrier, the sixteen heads, the exchange, the merge.
-/
module

public import proofs.«01_k».proof.Proof.Talk

@[expose] public section

noncomputable section

namespace Cert.KernelIdeal.Paged

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Dev nD → Blocks F)

/-- The blocks a device reads, in its five staging buffers. -/
def inputs (c : Dev nD) (B : Blocks F) : sProp 𝕄 :=
  iprop(has (Memref.whole cc0_stg0_0) c B.q ∗ has (Memref.whole cc0_stg1_0) c B.k ∗ has (Memref.whole cc0_stg2_0) c B.v
    ∗ has (Memref.whole cc0_stg3_0) c B.bt ∗ has (Memref.whole cc0_stg4_0) c B.ln)

/-- The call's four scratch buffers, at contents not chosen. -/
def scratch (c : Dev nD) : sProp 𝕄 :=
  iprop((∃ f, has oSrc c f) ∗ (∃ f, has sSrc c f) ∗ (∃ f, has oDst c f) ∗ (∃ f, has sDst c f))

/-- What the body starts from. -/
def bodyPre (K : GSem nD τ sig → ℕ) (c : Dev nD) (W : Waits sig Unit) : sProp 𝕄 :=
  iprop(opened I K c ∗ credits c ∗ levAts L lv ∗ inputs c (I c) ∗ (∃ f, has (Memref.whole cc0_stg5_0) c f) ∗ scratch c
    ∗ owes (c : Thread nD τ) (owedBy c) W)

/-- What the body ends with: the inputs as they were, the merge in the output's staging buffer, the counters at zero. -/
def bodyPost (c : Dev nD) : sProp 𝕄 :=
  iprop(semVal (cell .bar c) 0 ∗ counters c ∗ inputs c (I c)
    ∗ has (Memref.whole cc0_stg5_0) c
        (merged (outs c (I c)) (stats c (I c)) (outs (mate c) (I (mate c))) (stats (mate c) (I (mate c))))
    ∗ scratch c ∗ ∃ W, owes (c : Thread nD τ) (0 : CellTallies nD τ sig Unit) W)

omit [FloatOps F] in
theorem has_of_eq {s : Shape} {e : EltTy} (M : Memref sig .tc .vmem s e) (c : Dev nD) (f g : M.view.ty.Contents (Elt F)) (h : f = g) :
    (has M c f : sProp 𝕄) ⊢ has M c g := by rw [h]

/-- The sixteen stores of the heads' outputs, the last first. -/
def planes (c : Dev nD) (B : Blocks F) : List (View.Piece (Elt F) S16x16x64 .f32) :=
  [15, 14, 13, 12, 11, 10, 9, 8, 7, 6, 5, 4, 3, 2, 1, 0].map fun h : Fin 16 => ⟨qRect h, headOut c B h⟩

/-- Storing every head's output in its plane makes the outputs of all heads. -/
theorem planes_of_writes (c : Dev nD) (B : Blocks F) (f : (oSrc : Memref sig .tc .vmem S16x16x64 .f32).view.ty.Contents (Elt F))
    (L : List (View.Piece (Elt F) S16x16x64 .f32)) (hL : L = planes c B) :
    oSrc.view.writes (Elt F) f L = outs c B := by
  subst hL
  refine View.contents_ext _ (fun y => ?_) (fun i hi => absurd rfl (hi i))
  refine (View.read_writes_apply_of_pieces oSrc.view f (outs c B) (planes c B) ?_ y
    (View.cover_of_tiled (planes c B) S1x16x64.size rfl y)).trans rfl
  intro p hp x
  obtain ⟨h, -, rfl⟩ := List.mem_map.mp hp
  show headOut c B h x = headOut c B _ _
  idx_vars x
  fin_cases x0
  refine congrArg₂ (headOut c B) (Fin.ext ?_) (congrArg₂ (ix3 0) (Fin.ext ?_) (Fin.ext ?_)) <;> simp [qRect, Rect.emb, Rect.unit]

/-- The planes of the statistics, where they are stored. -/
theorem sums_at (c : Dev nD) (B : Blocks F) (x : S1x16x16.Idx) : stacked (headSum c B) x = stats c B ((mlRect 1).emb x) := by
  idx_vars x
  fin_cases x0
  refine (stacked_apply (headSum c B) x1 x2).trans ?_
  unfold stats
  rw [if_neg (by simp [mlRect, Rect.emb, Rect.unit])]
  refine congrArg₂ (headSum c B) (Fin.ext ?_) (congrArg₂ ix2 (Fin.ext ?_) rfl) <;> simp [mlRect, Rect.emb, Rect.unit]
theorem maxes_at (c : Dev nD) (B : Blocks F) (x : S1x16x16.Idx) : stacked (headMax c B) x = stats c B ((mlRect 0).emb x) := by
  idx_vars x
  fin_cases x0
  refine (stacked_apply (headMax c B) x1 x2).trans ?_
  unfold stats
  rw [if_pos (by simp [mlRect, Rect.emb, Rect.unit])]
  refine congrArg₂ (headMax c B) (Fin.ext ?_) (congrArg₂ ix2 (Fin.ext ?_) rfl) <;> simp [mlRect, Rect.emb, Rect.unit]

/-- The two stores of the statistics, the sums last. -/
def statPlanes (c : Dev nD) (B : Blocks F) : List (View.Piece (Elt F) S2x16x16 .f32) :=
  [⟨mlRect 1, stacked (headSum c B)⟩, ⟨mlRect 0, stacked (headMax c B)⟩]

/-- Storing the maxima's plane and the sums' makes the statistics of all heads. -/
theorem stats_of_writes (c : Dev nD) (B : Blocks F) (f : (sSrc : Memref sig .tc .vmem S2x16x16 .f32).view.ty.Contents (Elt F))
    (L : List (View.Piece (Elt F) S2x16x16 .f32)) (hL : L = statPlanes c B) :
    sSrc.view.writes (Elt F) f L = stats c B := by
  subst hL
  refine View.contents_ext _ (fun y => ?_) (fun i hi => absurd rfl (hi i))
  refine (View.read_writes_apply_of_pieces sSrc.view f (stats c B) (statPlanes c B) ?_ y
    (View.cover_of_tiled (statPlanes c B) S1x16x16.size rfl y)).trans rfl
  intro p hp x
  simp only [statPlanes, List.mem_cons, List.not_mem_nil, or_false] at hp
  rcases hp with rfl | rfl
  · exact sums_at c B x
  · exact maxes_at c B x

/-- The two outputs as their buffers are read, whole. -/
def oAll (x : Vec F S16x16x64 .f32) : Vec F S16x16x64 .f32 :=
  View.readAt (Elt F) (Memref.whole cc0_scratch0).view
    (Rect.unit (s := S16x16x64) ![0, 0, 0] S16x16x64.size inb_S16x16x64_S16x16x64_0_0_0).toLoadRect x

theorem oAll_eq (x : Vec F S16x16x64 .f32) : oAll x = x :=
  funext fun i => congrArg x (funext fun a => Fin.ext (by fin_cases a <;> simp [Rect.emb, Rect.unit]))

/-- What the merge's store leaves: the output's staging buffer, whole, at the merge. -/
theorem out_of_write (f : (cc0_stg5_0 : Ref sig .tc).ty.Contents (Elt F)) (o s o' s' : _)
    (L : List (View.Piece (Elt F) S16x16x64 .f32))
    (hL : L = [⟨Rect.unit (s := S16x16x64) ![0, 0, 0] S16x16x64.size inb_S16x16x64_S16x16x64_0_0_0, merged (oAll o) s (oAll o') s'⟩]) :
    (Memref.whole cc0_stg5_0).view.writes (Elt F) f L = merged o s o' s' := by
  subst hL
  rw [oAll_eq, oAll_eq]
  exact Memref.write_access_unit_zero_univ (Elt F) cc0_stg5_0 (off := ![0, 0, 0]) (by funext a; fin_cases a <;> rfl)
    inb_S16x16x64_S16x16x64_0_0_0 f (merged o s o' s')

set_option maxHeartbeats 1000000 in
theorem bodyRun (K : GSem nD τ sig → ℕ) (c : Dev nD) (W : Waits sig Unit) (Kt : PUnit → sProp 𝕄) :
    iprop(bodyPre I K c W ∗ (bodyPost I c -∗ Kt ⟨⟩))
      ⊢ wp frame (wpE (defs₀ (F := F)) 𝒱₀ c none) Set.univ
          (cc0_body (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            oSrc (Memref.isWhole_whole _) sSrc (Memref.isWhole_whole _) oDst (Memref.isWhole_whole _)
            sDst (Memref.isWhole_whole _) cc0_scratch4 cc0_scratch5) Kt := by
  simp only [cc0_body_eq_skeleton]
  unfold cc0_body_skel
  simp only [k0_part15_eq_skeleton]
  unfold k0_part15_skel
  simp only [k0_part1_eq_skeleton]
  unfold k0_part1_skel
  simp only [semSignalWord, semWaitWord, Prog.lift, Prog.bind_op, Prog.bind_ret, Prog.pure_eq_ret, Prog.bind_assoc, wp_deviceId]
  simp only [dev1_mate]
  unfold bodyPre opened invs tokens credits inputs scratch
  iintro ⟨⟨⟨⟨⟨#Ib, #IsO, #IsS, #IgO, #IgS⟩, #Ib', #IgO', #IgS'⟩, ⟨HatB, HatsO, HatsS, HatgO, HatgS⟩,
      ⟨#Rb', #RsO, #RsS, #RgO, #RgS⟩, ⟨TB, TsO, TsS, TgO, TgS⟩⟩, ⟨CB, CgO, CgS⟩, #Hlev,
      ⟨Hq, Hk, Hv, Hbt, Hln⟩, ⟨%f5, Ho⟩, ⟨⟨%f6, H6⟩, ⟨%f7, H7⟩, ⟨%f8, H8⟩, ⟨%f9, H9⟩⟩, HO⟩, Hpost⟩
  -- the signal: the partner gets this device's landing buffers, and that its receive cells are open
  iapply (Rounds.wp_signal 𝒱₀ ER (plan I) (c : Thread nD τ) none (dst := (mate c : Thread nD τ)) (sem := barrier0) (r := 0) (d := ())
      (κ := K (cell .bar (mate c))) (duty_mem I .bar (mate c)) (amount_at I .bar (mate c) ()) ()
      (tallyAt (cell .gotS (mate c)) () nS + tallyAt (cell .gotO (mate c)) () nO) rfl)
    $$ [HO TB H8 H9]
  · isplitr; · iexact Ib'
    isplitl [HO]; · iexact HO
    isplitl [TB]; · iexact TB
    isplitl [H8 H9]
    · rw [payload_on I .bar (.reg barrier0) rfl (mate c)]
      dsimp only [pay]
      rw [mate_mate]
      isplitl [H8]; · iexists f8; iapply (Entails.of_eq (hasV_eq cc0_scratch2 rfl c f8).symm) $$ H8
      isplitl [H9]; · iexists f9; iapply (Entails.of_eq (hasV_eq cc0_scratch3 rfl c f9).symm) $$ H9
      isplitr; · iexact RgO
      iexact RgS
    · iexact Rb'
  iintro HO
  -- the wait: the partner's landing buffers arrive
  iapply (Rounds.wp_wait_rest_token 𝒱₀ ER (plan I) (c : Thread nD τ) none (κ := K (cell .bar c))
      (wpE_semWait_eq 𝒱₀ (c : Thread nD τ) none Set.univ) (Set.mem_univ _) ()
      (O := tallyAt (cell .gotS (mate c)) () nS + tallyAt (cell .gotO (mate c)) () nO) (W := W) (R := 0) (m := 0) (T := ∅)
      ((Nat.zero_add 1).trans (expect_at I .bar c).symm)) $$ [CB HO HatB]
  · isplitr; · iexact Ib
    isplitl [CB]; · iexact CB
    isplitl [HO]; · iexact HO
    isplitr; · iapply (mayWait_bar c); iexact Hlev
    iexact HatB
  iintro ⟨HO, HatB, -, Hpay⟩
  ihave Hp := (Entails.of_eq (rest_on I .bar (.reg barrier0) rfl c)) $$ Hpay
  dsimp only [pay]
  icases Hp with ⟨⟨%g8, H8⟩, ⟨%g9, H9⟩, #RgO', #RgS'⟩
  sl_exec
  -- what the run has left in the two outgoing buffers
  ihave H6 : (hasV oSrc c (outs c (I c))) $$ [H6]
  · iapply (Entails.of_eq (hasV_eq cc0_scratch0 rfl c (outs c (I c))).symm)
    iapply (has_of_eq oSrc c _ (outs c (I c)) ?_) $$ H6
    refine planes_of_writes c (I c) f6 _ ?_
    rfl
  ihave H7 : (hasV sSrc c (stats c (I c))) $$ [H7]
  · iapply (Entails.of_eq (hasV_eq cc0_scratch1 rfl c (stats c (I c))).symm)
    iapply (has_of_eq sSrc c _ (stats c (I c)) ?_) $$ H7
    refine stats_of_writes c (I c) f7 _ ?_
    rfl
  simp only [Prog.lift, Prog.bind_op, Prog.bind_ret, Prog.pure_eq_ret, Prog.bind_assoc]
  -- the outputs' copy: pays the partner's arrival and this device's own send
  iapply (Rounds.wp_send_pointsTo 𝒱₀ ER (plan I) (c : Thread nD τ) none (c' := ((⟨k0_dev2 c, k0_dev2_lt c⟩ : Dev nD) : Thread nD τ)) (src := oSrc) (dst := oDst)
      (sS := .dma 6) (sem := .dma 8) (q := fullShare) (fs := outs c (I c)) (κ₁ := K (cell .sentO c)) (κ₂ := K (cell .gotO (mate c)))
      (r₁ := 0) (r₂ := 0) (d₁ := ()) (d₂ := ()) (fd := g8)
      (duty_mem I .sentO c) (duty_mem I .gotO _) () () nO rfl (amount_at I .sentO c ()) (amount_at I .gotO _ ())
      (tallyAt (cell .gotS (mate c)) () nS) (by rw [dev2_mate]) (W := insert (SemLoc.reg barrier0, ()) W)
      (by rw [payload_on I .sentO (.dma 6) rfl c]; exact BI.Entails.refl _)
      (by rw [dev2_mate, payload_on I .gotO (.dma 8) rfl (mate c)]; dsimp only [pay]; rw [mate_mate, landO])) $$ [H6 H8 HO TsO TgO]
  · isplitr; · iexact IsO
    isplitr; · rw [dev2_mate]; iexact IgO'
    isplitl [H6]; · iexact H6
    isplitl [H8]; · rw [dev2_mate]; iexact H8
    isplitl [HO]; · iexact HO
    isplitl [TsO]; · iexact TsO
    isplitr; · iexact RsO
    isplitl [TgO]; · rw [dev2_mate]; iexact TgO
    rw [dev2_mate]; iexact RgO'
  iintro ⟨CsO, HO⟩
  -- the statistics' copy, likewise
  iapply (Rounds.wp_send_pointsTo 𝒱₀ ER (plan I) (c : Thread nD τ) none (c' := ((⟨k0_dev3 c, k0_dev3_lt c⟩ : Dev nD) : Thread nD τ)) (src := sSrc) (dst := sDst)
      (sS := .dma 7) (sem := .dma 9) (q := fullShare) (fs := stats c (I c)) (κ₁ := K (cell .sentS c)) (κ₂ := K (cell .gotS (mate c)))
      (r₁ := 0) (r₂ := 0) (d₁ := ()) (d₂ := ()) (fd := g9)
      (duty_mem I .sentS c) (duty_mem I .gotS _) () () nS rfl (amount_at I .sentS c ()) (amount_at I .gotS _ ())
      0 (by rw [zero_add, dev3_mate]) (W := insert (SemLoc.reg barrier0, ()) W)
      (by rw [payload_on I .sentS (.dma 7) rfl c]; exact BI.Entails.refl _)
      (by rw [dev3_mate, payload_on I .gotS (.dma 9) rfl (mate c)]; dsimp only [pay]; rw [mate_mate, landS])) $$ [H7 H9 HO TsS TgS]
  · isplitr; · iexact IsS
    isplitr; · rw [dev3_mate]; iexact IgS'
    isplitl [H7]; · iexact H7
    isplitl [H9]; · rw [dev3_mate]; iexact H9
    isplitl [HO]; · iexact HO
    isplitl [TsS]; · iexact TsS
    isplitr; · iexact RsS
    isplitl [TgS]; · rw [dev3_mate]; iexact TgS
    rw [dev3_mate]; iexact RgS'
  iintro ⟨CsS, HO⟩
  -- the outputs are sent: their buffer comes back
  iapply (Rounds.wp_wait_rest_token 𝒱₀ ER (plan I) (c : Thread nD τ) none (κ := K (cell .sentO c))
      (wpE_waitDma2_eq (src := oDst) (dst := oSrc) 𝒱₀ (c : Thread nD τ) none Set.univ) (Set.mem_univ _) () (O := 0)
      (W := insert (SemLoc.reg barrier0, ()) W) (R := 0) (m := 0) (T := ∅)
      ((Nat.zero_add _).trans (expect_at I .sentO c).symm)) $$ [CsO HO HatsO]
  · isplitr; · iexact IsO
    isplitl [CsO]; · iexact CsO
    isplitl [HO]; · iexact HO
    isplitr; · rw [MayWait_zero]; iempintro
    iexact HatsO
  iintro ⟨HO, HatsO, -, Hpay⟩
  ihave H6 := (Entails.of_eq (rest_on I .sentO (.dma 6) rfl c)) $$ Hpay
  dsimp only [pay]
  -- the partner's outputs have arrived
  iapply (Rounds.wp_wait_rest_token 𝒱₀ ER (plan I) (c : Thread nD τ) none (κ := K (cell .gotO c))
      (wpE_waitDma2_eq (src := oSrc) (dst := oDst) 𝒱₀ (c : Thread nD τ) none Set.univ) (Set.mem_univ _) () (O := 0)
      (W := insert (SemLoc.dma 6, ()) (insert (SemLoc.reg barrier0, ()) W)) (R := 0) (m := 0) (T := ∅)
      ((Nat.zero_add _).trans (expect_at I .gotO c).symm)) $$ [CgO HO HatgO]
  · isplitr; · iexact IgO
    isplitl [CgO]; · iexact CgO
    isplitl [HO]; · iexact HO
    isplitr; · rw [MayWait_zero]; iempintro
    iexact HatgO
  iintro ⟨HO, HatgO, -, Hpay⟩
  ihave H8 := (Entails.of_eq (rest_on I .gotO (.dma 8) rfl c)) $$ Hpay
  dsimp only [pay]
  -- the statistics are sent
  iapply (Rounds.wp_wait_rest_token 𝒱₀ ER (plan I) (c : Thread nD τ) none (κ := K (cell .sentS c))
      (wpE_waitDma2_eq (src := sDst) (dst := sSrc) 𝒱₀ (c : Thread nD τ) none Set.univ) (Set.mem_univ _) () (O := 0)
      (W := insert (SemLoc.dma 8, ()) (insert (SemLoc.dma 6, ()) (insert (SemLoc.reg barrier0, ()) W))) (R := 0) (m := 0) (T := ∅)
      ((Nat.zero_add _).trans (expect_at I .sentS c).symm)) $$ [CsS HO HatsS]
  · isplitr; · iexact IsS
    isplitl [CsS]; · iexact CsS
    isplitl [HO]; · iexact HO
    isplitr; · rw [MayWait_zero]; iempintro
    iexact HatsS
  iintro ⟨HO, HatsS, -, Hpay⟩
  ihave H7 := (Entails.of_eq (rest_on I .sentS (.dma 7) rfl c)) $$ Hpay
  dsimp only [pay]
  rw [wp_ret]
  imodintro
  -- the partner's statistics have arrived
  iapply (Rounds.wp_wait_rest_token 𝒱₀ ER (plan I) (c : Thread nD τ) none (κ := K (cell .gotS c))
      (wpE_waitDma2_eq (src := sSrc) (dst := sDst) 𝒱₀ (c : Thread nD τ) none Set.univ) (Set.mem_univ _) () (O := 0)
      (W := insert (SemLoc.dma 7, ()) (insert (SemLoc.dma 8, ()) (insert (SemLoc.dma 6, ()) (insert (SemLoc.reg barrier0, ()) W)))) (R := 0) (m := 0) (T := ∅)
      ((Nat.zero_add _).trans (expect_at I .gotS c).symm)) $$ [CgS HO HatgS]
  · isplitr; · iexact IgS
    isplitl [CgS]; · iexact CgS
    isplitl [HO]; · iexact HO
    isplitr; · rw [MayWait_zero]; iempintro
    iexact HatgS
  iintro ⟨HO, HatgS, -, Hpay⟩
  ihave H9 := (Entails.of_eq (rest_on I .gotS (.dma 9) rfl c)) $$ Hpay
  dsimp only [pay]
  ihave H6 := (Entails.of_eq (hasV_eq cc0_scratch0 rfl c _)) $$ H6
  ihave H7 := (Entails.of_eq (hasV_eq cc0_scratch1 rfl c _)) $$ H7
  ihave H8 := (Entails.of_eq (hasV_eq cc0_scratch2 rfl c _)) $$ H8
  ihave H9 := (Entails.of_eq (hasV_eq cc0_scratch3 rfl c _)) $$ H9
  sl_exec
  ihave Ho : (has (Memref.whole cc0_stg5_0) c
        (merged (outs c (I c)) (stats c (I c)) (outs (mate c) (I (mate c))) (stats (mate c) (I (mate c))))) $$ [Ho]
  · iapply (has_of_eq (Memref.whole cc0_stg5_0) c _ _ ?_) $$ Ho
    refine out_of_write f5 _ _ _ _ _ ?_
    rfl
  rw [wp_ret]
  imod (shut I (K (cell .bar c)) (cell .bar c)) $$ [HatB] with Zb
  · isplitr; · iexact Ib
    iexact HatB
  imod (shut I (K (cell .sentO c)) (cell .sentO c)) $$ [HatsO] with ZsO
  · isplitr; · iexact IsO
    iexact HatsO
  imod (shut I (K (cell .sentS c)) (cell .sentS c)) $$ [HatsS] with ZsS
  · isplitr; · iexact IsS
    iexact HatsS
  imod (shut I (K (cell .gotO c)) (cell .gotO c)) $$ [HatgO] with ZgO
  · isplitr; · iexact IgO
    iexact HatgO
  imod (shut I (K (cell .gotS c)) (cell .gotS c)) $$ [HatgS] with ZgS
  · isplitr; · iexact IgS
    iexact HatgS
  imodintro
  iapply Hpost
  unfold bodyPost counters inputs scratch
  isplitl [Zb]; · iexact Zb
  isplitl [ZsO ZsS ZgO ZgS]
  · isplitl [ZsO]; · iexact ZsO
    isplitl [ZsS]; · iexact ZsS
    isplitl [ZgO]; · iexact ZgO
    iexact ZgS
  isplitl [Hq Hk Hv Hbt Hln]
  · isplitl [Hq]; · iexact Hq
    isplitl [Hk]; · iexact Hk
    isplitl [Hv]; · iexact Hv
    isplitl [Hbt]; · iexact Hbt
    iexact Hln
  isplitl [Ho]; · iexact Ho
  isplitl [H6 H7 H8 H9]
  · isplitl [H6]; · iexists _; iexact H6
    isplitl [H7]; · iexists _; iexact H7
    isplitl [H8]; · iexists _; iexact H8
    iexists _; iexact H9
  iexists _; iexact HO

end Cert.KernelIdeal.Paged

end
-- ==== Proof.Region.lean ====
/-
  The call as a segment of the program: what it is entered with, what it leaves.

  It is entered with its six arrays and the exchange's ghost state, opens the cells of its own four
  semaphores, runs the body, and leaves the merge in the sixth array with every counter back at zero.
-/
module

public import proofs.«01_k».proof.Proof.Body
public import proofs.«01_k».proof.Proof.Gen.KernelIdeal.Frame
public import Idealize.ShloMosaic.Lib.Pipeline.ValueKit.Geometry

@[expose] public section

set_option maxRecDepth 16384

noncomputable section

namespace Cert.KernelIdeal.Paged

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The blocks device `c`'s body reads. -/
def blocks (c : Dev nD) : Blocks F :=
  ⟨iblk m c 0 t0_0, iblk m c 1 t0_0, iblk m c 2 t0_0, iblk m c 3 t0_0, iblk m c 4 t0_0⟩

/-- What the call leaves on device `c`: its own partial results merged with its partner's. -/
def result (c : Dev nD) : Vec F S16x16x64 .f32 :=
  merged (outs c (blocks m c)) (stats c (blocks m c)) (outs (mate c) (blocks m (mate c))) (stats (mate c) (blocks m (mate c)))

/-- What the call's one point is entered with beside the windows. -/
def entering (c : Dev nD) : sProp 𝕄 :=
  iprop((∃ K, opened (blocks m) K c) ∗ credits c ∗ levAts L lv ∗ scratch c ∗ ∃ r, prngReg c r)
/-- And left with. -/
def leaving (c : Dev nD) : sProp 𝕄 :=
  iprop(semVal (cell .bar c) 0 ∗ counters c ∗ scratch c ∗ ∃ r, prngReg c r)

def dat0 (c : Dev nD) : Dat τ (Elt F) Unit ℕ UU ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun _ => result m c
    | ⟨_ + 6, h⟩ => absurd h (Nat.not_lt.2 (Nat.le_add_left _ _))
  Φ t := if t.val = 0 then entering m c else leaving c
  q _ := fullShare
  owed t := if t.val = 0 then owedBy c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem owed_zero (c : Dev nD) : (pdats (F := F) m 0 c).owed 0 = owedBy c := by
  show (if ((0 : Fin (cfg0.N + 1)).val = 0) then owedBy c else 0) = owedBy c; exact if_pos rfl
theorem owed_first (c : Dev nD) : (dat0 (F := F) m c).owed t0_0.castSucc = owedBy c := by
  show (if (t0_0.castSucc : Fin (cfg0.N + 1)).val = 0 then owedBy c else 0) = owedBy c; exact if_pos rfl
theorem owed_last (c : Dev nD) : (pdats (F := F) m 0 c).owed (Fin.last _) = 0 := by
  show (if (Fin.last cfg0.N).val = 0 then owedBy c else 0) = 0
  rw [Fin.val_last, if_neg (by rw [show cfg0.N = 1 from N_0]; decide)]

/-- The core's debt as the point's, and back. -/
theorem owesAt_of (c : Dev nD) (t : Fin (cfg0.N + 1)) (O : CellTallies nD τ sig Unit) (h : (dat0 (F := F) m c).owed t = O) :
    iprop(∃ W, owes (c : Thread nD τ) O W) ⊢ ((dat0 (F := F) m c).owesAt () t : sProp 𝕄) := by
  unfold Dat.owesAt Pipeline.owesWithin Dat.bound; rw [h]
  iintro ⟨%W, HO⟩; iexists W; isplitr; · ipureintro; exact fun _ _ => Or.inl trivial
  iexact HO
theorem of_owesAt (c : Dev nD) (t : Fin (cfg0.N + 1)) (O : CellTallies nD τ sig Unit) (h : (dat0 (F := F) m c).owed t = O) :
    ((dat0 (F := F) m c).owesAt () t : sProp 𝕄) ⊢ iprop(∃ W, owes (c : Thread nD τ) O W) := by
  unfold Dat.owesAt Pipeline.owesWithin; rw [h]
  iintro ⟨%W, -, HO⟩; iexists W; iexact HO

/-- An input's staging buffer holds the window's block before the body, whatever it held. -/
theorem found0 (c : Dev nD) (d) : (dat0 m c).before 0 t0_0 d = iblk m c 0 t0_0 :=
  ((dat0 m c).before_in_eq_fetched 0 rfl (fun _ => rfl) (fun _ _ _ => rfl) (fun _ => rfl) t0_0 d).trans rfl
theorem found1 (c : Dev nD) (d) : (dat0 m c).before 1 t0_0 d = iblk m c 1 t0_0 :=
  ((dat0 m c).before_in_eq_fetched 1 rfl (fun _ => rfl) (fun _ _ _ => rfl) (fun _ => rfl) t0_0 d).trans rfl
theorem found2 (c : Dev nD) (d) : (dat0 m c).before 2 t0_0 d = iblk m c 2 t0_0 :=
  ((dat0 m c).before_in_eq_fetched 2 rfl (fun _ => rfl) (fun _ _ _ => rfl) (fun _ => rfl) t0_0 d).trans rfl
theorem found3 (c : Dev nD) (d) : (dat0 m c).before 3 t0_0 d = iblk m c 3 t0_0 :=
  ((dat0 m c).before_in_eq_fetched 3 rfl (fun _ => rfl) (fun _ _ _ => rfl) (fun _ => rfl) t0_0 d).trans rfl
theorem found4 (c : Dev nD) (d) : (dat0 m c).before 4 t0_0 d = iblk m c 4 t0_0 :=
  ((dat0 m c).before_in_eq_fetched 4 rfl (fun _ => rfl) (fun _ _ _ => rfl) (fun _ => rfl) t0_0 d).trans rfl

omit [FloatOps F] in
/-- A whole staging buffer owned at `X` is held at `X`, and back. -/
theorem has_of_owns {b : Ref sig .tc} (hb : b.space = .vmem) (c : Dev nD) (X : b.ty.Contents (Elt F)) :
    (owns (c : Thread nD τ) (Memref.whole b) fullShare X : sProp 𝕄) ⊢ ((Memref.whole b).view.loc (c : Thread nD τ) ↦{fullShare} X) := by
  unfold owns
  iintro ⟨%f, %h, H⟩
  subst h
  iapply (Entails.of_eq (hasV_eq b hb c f)) $$ H
omit [FloatOps F] in
theorem owns_of_has {b : Ref sig .tc} (hb : b.space = .vmem) (c : Dev nD) (X : b.ty.Contents (Elt F)) :
    ((Memref.whole b).view.loc (c : Thread nD τ) ↦{fullShare} X : sProp 𝕄) ⊢ owns (c : Thread nD τ) (Memref.whole b) fullShare X := by
  unfold owns
  iintro H
  iexists X
  isplitr; · ipureintro; rfl
  iapply (Entails.of_eq (hasV_eq b hb c X).symm) $$ H

set_option backward.isDefEq.respectTransparency.types false in
/-- The call's one point: the body's run. -/
theorem body (c : Dev nD) : BodyObligation (dat0 (F := F) m c) defs₀ 𝒱₀ () Set.univ := fun t => by
  obtain rfl := fin_N0 t
  rw [bigSep_W0, bigSep_W0]
  rw [show (dat0 m c).Φ t0_0.castSucc = entering m c from rfl, show (dat0 m c).Φ t0_0.succ = leaving c from rfl]
  unfold entering
  iintro ⟨⟨⟨%K, Hg⟩, Hcr, Hlev, Hsc, Hp⟩, HO, ⟨%d0, H0⟩, ⟨%d1, H1⟩, ⟨%d2, H2⟩, ⟨%d3, H3⟩, ⟨%d4, H4⟩, ⟨%d5, H5⟩⟩
  ihave HO' := (of_owesAt m c _ (owedBy c) (owed_first m c)) $$ HO
  icases HO' with ⟨%W, HO⟩
  rw [found0, found1, found2, found3, found4]
  iapply (bodyRun (blocks m) K c W _)
  isplitl [Hg Hcr Hlev Hsc HO H0 H1 H2 H3 H4 H5]
  · unfold bodyPre inputs
    isplitl [Hg]; · iexact Hg
    isplitl [Hcr]; · iexact Hcr
    isplitl [Hlev]; · iexact Hlev
    isplitl [H0 H1 H2 H3 H4]
    · isplitl [H0]; · iapply (has_of_owns (b := cc0_stg0_0) rfl c (iblk m c 0 t0_0)); iexact H0
      isplitl [H1]; · iapply (has_of_owns (b := cc0_stg1_0) rfl c (iblk m c 1 t0_0)); iexact H1
      isplitl [H2]; · iapply (has_of_owns (b := cc0_stg2_0) rfl c (iblk m c 2 t0_0)); iexact H2
      isplitl [H3]; · iapply (has_of_owns (b := cc0_stg3_0) rfl c (iblk m c 3 t0_0)); iexact H3
      iapply (has_of_owns (b := cc0_stg4_0) rfl c (iblk m c 4 t0_0)); iexact H4
    isplitl [H5]; · iexists _; iapply (has_of_owns (b := cc0_stg5_0) rfl c _); iexact H5
    isplitl [Hsc]; · iexact Hsc
    iexact HO
  unfold bodyPost leaving inputs
  iintro ⟨Hb0, Hcs, ⟨H0, H1, H2, H3, H4⟩, H5, Hsc, HO⟩
  isplitl [Hb0 Hcs Hsc Hp]
  · isplitl [Hb0]; · iexact Hb0
    isplitl [Hcs]; · iexact Hcs
    isplitl [Hsc] <;> iassumption
  isplitl [HO]; · iapply (owesAt_of m c t0_0.succ 0 (owed_last m c)); iexact HO
  isplitl [H0]; · iapply (owns_of_has (b := cc0_stg0_0) rfl c (iblk m c 0 t0_0)); iexact H0
  isplitl [H1]; · iapply (owns_of_has (b := cc0_stg1_0) rfl c (iblk m c 1 t0_0)); iexact H1
  isplitl [H2]; · iapply (owns_of_has (b := cc0_stg2_0) rfl c (iblk m c 2 t0_0)); iexact H2
  isplitl [H3]; · iapply (owns_of_has (b := cc0_stg3_0) rfl c (iblk m c 3 t0_0)); iexact H3
  isplitl [H4]; · iapply (owns_of_has (b := cc0_stg4_0) rfl c (iblk m c 4 t0_0)); iexact H4
  iapply (owns_of_has (b := cc0_stg5_0) rfl c (result m c)); iexact H5

/-! ## The call's own semaphores -/

/-- The four semaphores the call scopes itself. -/
abbrev own : Fin 4 → SemLoc sig := fun | 0 => Role.sem .sentO | 1 => Role.sem .sentS | 2 => Role.sem .gotO | 3 => Role.sem .gotS

omit [FloatOps F] in
theorem bigSep_four {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

theorem own_counters (c : Dev nD) : (Pipeline.ownSems0 own c : sProp 𝕄) = counters c :=
  bigSep_four (fun k : Fin 4 => (semVal ((c : Thread nD τ), own k) 0 : sProp 𝕄))

/-- Opening the four cells: their counters and rights for their positions. -/
theorem opening (c : Dev nD) :
    iprop(((∃ K, ghost (blocks m) K c) ∗ credits c) ∗ Pipeline.ownSems0 own c ∗ levAts L lv)
      ⊢ (|={Set.univ}=> iprop((∃ K, opened (blocks m) K c) ∗ credits c ∗ levAts L lv) : sProp 𝕄) := by
  rw [own_counters]
  unfold ghost opened invs rights counters
  iintro ⟨⟨⟨%K, ⟨⟨#IB, #ISo, #ISs, #IGo, #IGs⟩, #IBm, #IGom, #IGsm⟩, HatB, ⟨RSo, RSs, RGo, RGs⟩, #HrB, HT⟩, Hcr⟩, ⟨CSo, CSs, CGo, CGs⟩, #Hlev⟩
  imod (Rounds.cell_open ER (plan (blocks m)) (g := cell .sentO c) (Set.mem_univ (K (cell .sentO c)))) $$ [RSo CSo] with ⟨ASo, #HrSo⟩
  · isplitr; · iexact ISo
    isplitl [RSo] <;> iassumption
  imod (Rounds.cell_open ER (plan (blocks m)) (g := cell .sentS c) (Set.mem_univ (K (cell .sentS c)))) $$ [RSs CSs] with ⟨ASs, #HrSs⟩
  · isplitr; · iexact ISs
    isplitl [RSs] <;> iassumption
  imod (Rounds.cell_open ER (plan (blocks m)) (g := cell .gotO c) (Set.mem_univ (K (cell .gotO c)))) $$ [RGo CGo] with ⟨AGo, #HrGo⟩
  · isplitr; · iexact IGo
    isplitl [RGo] <;> iassumption
  imod (Rounds.cell_open ER (plan (blocks m)) (g := cell .gotS c) (Set.mem_univ (K (cell .gotS c)))) $$ [RGs CGs] with ⟨AGs, #HrGs⟩
  · isplitr; · iexact IGs
    isplitl [RGs] <;> iassumption
  imodintro
  isplitr [Hcr]
  · iexists K
    isplitr
    · isplitr
      · isplitr; · iexact IB
        isplitr; · iexact ISo
        isplitr; · iexact ISs
        isplitr; · iexact IGo
        iexact IGs
      isplitr; · iexact IBm
      isplitr; · iexact IGom
      iexact IGsm
    isplitl [HatB ASo ASs AGo AGs]
    · isplitl [HatB]; · iexact HatB
      isplitl [ASo]; · iexact ASo
      isplitl [ASs]; · iexact ASs
      isplitl [AGo] <;> iassumption
    isplitr
    · isplitr; · iexact HrB
      isplitr; · iexact HrSo
      isplitr; · iexact HrSs
      isplitr; · iexact HrGo
      iexact HrGs
    iexact HT
  isplitl [Hcr]; · iexact Hcr
  iexact Hlev

theorem scoped_scratch (c : Dev nD) :
    (Pipeline.scopedRest (Ix := Unit) (Name := ℕ) (U := UU) (Lvl := ℕ) (Val := Elt F) (Pipeline.pin (pcfgs (F := F)) adm 0).spec c : sProp 𝕄)
      = scratch c :=
  scopedRest0_eq c

theorem entry_in (c : Dev nD) (W : Valuation τ sig (Elt F)) :
    iprop(Pipeline.scopedRest (Pipeline.pin (pcfgs (F := F)) adm 0).spec c ∗ (∃ r, prngReg c r)
        ∗ StableHlo.held (c.tc : Thread nD τ) ∅ W ∗ ((∃ K, opened (blocks m) K c) ∗ credits c ∗ levAts L lv))
      ⊢ (pdats m 0 c).Φ 0 := by
  rw [show (pdats m 0 c).Φ 0 = entering m c from rfl, scoped_scratch]
  unfold entering
  iintro ⟨Hs, Hp, -, HK, Hcr, #Hlev⟩
  isplitl [HK]; · iexact HK
  isplitl [Hcr]; · iexact Hcr
  isplitr; · iexact Hlev
  isplitl [Hs] <;> iassumption

theorem exit_out (c : Dev nD) (W : Valuation τ sig (Elt F)) :
    (pdats m 0 c).Φ (Fin.last (Pipeline.pin (pcfgs (F := F)) adm 0).N)
      ⊢ iprop(Pipeline.scopedRest (Pipeline.pin (pcfgs (F := F)) adm 0).spec c ∗ (∃ r, prngReg c r)
          ∗ StableHlo.held (c.tc : Thread nD τ) ∅ W ∗ Pipeline.ownSems0 own c ∗ semVal (cell .bar c) 0) := by
  rw [show (pdats m 0 c).Φ (Fin.last _) = leaving c from rfl, scoped_scratch, own_counters,
    show (StableHlo.held (c.tc : Thread nD τ) ∅ W : sProp 𝕄) = BI.emp from BI.bigSep_empty]
  unfold leaving
  iintro ⟨Hb0, Hcs, Hs, Hp⟩
  isplitl [Hs]; · iexact Hs
  isplitl [Hp]; · iexact Hp
  isplitr; · iempintro
  isplitl [Hcs] <;> iassumption

/-- What is owed at any time sits on a cell whose level is above the staging cells'. -/
theorem owed_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then owedBy c else 0 := rfl
  rw [e] at h
  split at h
  · unfold owedBy at h
    rcases tally_add_pos h with h | h
    · rcases tally_add_pos h with h | h
      · rw [tally_pos h, lv_at]; exact ⟨mem_L .gotS _ _, by decide⟩
      · rw [tally_pos h, lv_at]; exact ⟨mem_L .gotO _ _, by decide⟩
    · rw [tally_pos h, lv_at]; exact ⟨mem_L .bar _ _, by decide⟩
  · exact absurd h (Nat.lt_irrefl 0)

/-! ## The arrays before and after -/

/-- The unscoped buffers when the call has returned: its output array holds the merge. -/
def V1 (c : Dev nD) : Valuation τ sig (Elt F) := Function.update (V0 m c) (Proc.devRef .tc main_v11) (result m c)

theorem V1_out (c : Dev nD) : V1 m c (Proc.devRef .tc main_v11) = result m c := Function.update_self _ _ _
theorem V1_ne (c : Dev nD) (b : DevRef τ sig) (h : b ≠ Proc.devRef .tc main_v11) : V1 m c b = V0 m c b :=
  Function.update_of_ne h _ _

theorem arr_in (c : Dev nD) (w : Fin 6) (h : (cfg0.win w).isOut = false) (n : ℕ) : (dat0 m c).arrAt w n = V m c (Pipeline.arrRef spec0 w) :=
  (dat0 m c).arrAt_in w h n

theorem arr_out (c : Dev nD) : (dat0 m c).arrAt 5 cfg0.N = result m c :=
  (dat0 m c).arrAt_eq_of_after_last 5 t0_0 (by decide +kernel) (result m c) (fun j => rfl)

/-- The other unscoped buffers: those the call does not touch. -/
def others : Finset (DevRef τ sig) := Pipeline.ucRefs τ sig \ Pipeline.arrRefs (τ := τ) spec0

theorem arr_sub : Pipeline.arrRefs (τ := τ) spec0 ⊆ Pipeline.ucRefs τ sig := Pipeline.arrRefs_sub_ucRefs spec0 winFacts0.arr_unscoped

end Cert.KernelIdeal.Paged

end
-- ==== Proof.Launch.lean ====
/-
  The whole program's run: the launch deals the exchange's ghost state, the host prepares the operands, the
  call runs, the host lays the result out.
-/
module

public import proofs.«01_k».proof.Proof.Region
public import Idealize.ShloMosaic.Harness.Basic

@[expose] public section

set_option maxRecDepth 16384

noncomputable section

namespace Cert.KernelIdeal.Paged

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-! ## The three segments -/

/-- What rides beside the buffers up to the call. -/
def riding (c : Dev nD) : sProp 𝕄 :=
  iprop(((∃ K, ghost (blocks m) K c) ∗ credits c) ∗ (∃ r, prngReg c r) ∗ ∃ W, owes (c : Thread nD τ) (owedBy c) W)
/-- And from there on. -/
def rest (c : Dev nD) : sProp 𝕄 := iprop(semVal (cell .bar c) 0 ∗ ∃ W, owes (c : Thread nD τ) (0 : CellTallies nD τ sig Unit) W)

/-- The launched memory as a valuation of the device's buffers. -/
def launched (c : Dev nD) : Valuation τ sig (Elt F) := fun b => m (c, b)

/-- Before the call. -/
def seg0 : ℍ :=
  Pipeline.HostSeg.ofOps _ _ _ _ _ (Pipeline.ucRefs τ sig) hostOps0
    (fun op h => Pipeline.sub_ucRefs op (List.forall_iff_forall_mem.mp hostOps0_sub op h))
    (fun op h => List.forall_iff_forall_mem.mp hostOps0_fresh op h) (launched m) (riding m)

/-- After it. -/
def seg1 : ℍ :=
  Pipeline.HostSeg.ofOps _ _ _ _ _ (Pipeline.ucRefs τ sig) hostOps1
    (fun op h => Pipeline.sub_ucRefs op (List.forall_iff_forall_mem.mp hostOps1_sub op h))
    (fun op h => List.forall_iff_forall_mem.mp hostOps1_fresh op h) (V1 m) rest

set_option backward.isDefEq.respectTransparency.types false in
/-- The call. -/
def reg : ℝ𝕊 0 :=
  Pipeline.RegionSeg.ofTalk (pcfgs (F := F)) adm (pdats m) () defs₀ 𝒱₀ L lv 0 own (by decide : Pipeline.OwnSemFacts spec0 own)
    ∅ others (Finset.empty_subset _) launch0.toP rfl (fun c => (body m c).loose)
    (fun _ => 0) owedBy (fun c => (owed_zero m c).trans (zero_add _).symm) (owed_last m) (fun _ => rfl)
    (fun c w => by fin_cases w <;> rfl)
    (V0 m) (V1 m)
    (fun c b hb => V1_ne m c b fun h => (Finset.mem_sdiff.mp (Finset.mem_sdiff.mp hb).1).2 (h ▸ (by decide)))
    (fun c => iprop((∃ K, ghost (blocks m) K c) ∗ credits c)) (fun c => semVal (cell .bar c) 0)
    (fun c => iprop((∃ K, opened (blocks m) K c) ∗ credits c ∗ levAts L lv)) (fun c => semVal (cell .bar c) 0)
    (opening m) (fun c => entry_in m c _) (fun c => exit_out m c _)
    (fun c => by iintro H; imodintro; iexact H)
    (fun _ => 0)
    ⟨fun c w s => by rw [L_tc]; exact Finset.mem_singleton_self _,
      fun c w s => (by decide : ∀ (w : Fin 6) (s : Fin (spec0 w).nbuf), (roleOf (.dma ((spec0 w).sem s))).elim 0 Role.level ≤ 0) w s,
      fun c t g i h => owed_above m c t g i h⟩
    (fun _ => iprop(emp))
    (fun c w => rfl)
    (fun c w => by
      fin_cases w
      · exact (arr_in m c 0 rfl _).trans (V1_ne m c _ (by decide)).symm
      · exact (arr_in m c 1 rfl _).trans (V1_ne m c _ (by decide)).symm
      · exact (arr_in m c 2 rfl _).trans (V1_ne m c _ (by decide)).symm
      · exact (arr_in m c 3 rfl _).trans (V1_ne m c _ (by decide)).symm
      · exact (arr_in m c 4 rfl _).trans (V1_ne m c _ (by decide)).symm
      · exact (arr_out m c).trans (V1_out m c).symm)

theorem held_parts (c : Dev nD) (W : Valuation τ sig (Elt F)) :
    (StableHlo.held (c.tc : Thread nD τ) (Pipeline.ucRefs τ sig) W : sProp 𝕄)
      = iprop(StableHlo.held (c.tc : Thread nD τ) (Pipeline.arrRefs (τ := τ) spec0) W ∗ StableHlo.held (c.tc : Thread nD τ) others W) :=
  StableHlo.held_sub_split (c.tc : Thread nD τ) arr_sub W

theorem reg_pre (c : Dev nD) :
    iprop(StableHlo.held (c : Thread nD τ) (Pipeline.ucRefs τ sig) (StableHlo.after hostOps0 (launched m c)) ∗ riding m c) ⊢ (reg m).pre c := by
  show _ ⊢ iprop(StableHlo.held (c.tc : Thread nD τ) (Pipeline.arrRefs (τ := τ) spec0) (V0 m c) ∗ (∃ r, prngReg c r)
    ∗ (StableHlo.held (c.tc : Thread nD τ) others (V0 m c) ∗ emp) ∗ ((∃ K, ghost (blocks m) K c) ∗ credits c)
    ∗ ∃ Wd, owes (c : Thread nD τ) (0 + owedBy c) Wd)
  rw [zero_add, show StableHlo.after hostOps0 (launched m c) = V0 m c from rfl, held_parts]
  unfold riding
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem reg_post (c : Dev nD) :
    (reg m).post c ⊢ iprop(StableHlo.held (c : Thread nD τ) (Pipeline.ucRefs τ sig) (V1 m c) ∗ rest c) := by
  show iprop(StableHlo.held (c.tc : Thread nD τ) (Pipeline.arrRefs (τ := τ) spec0) (V1 m c) ∗ (∃ r, prngReg c r)
    ∗ (StableHlo.held (c.tc : Thread nD τ) others (V1 m c) ∗ emp) ∗ semVal (cell .bar c) 0
    ∗ ∃ Wd, owes (c : Thread nD τ) (0 : CellTallies nD τ sig Unit) Wd) ⊢ _
  rw [held_parts]
  unfold rest
  iintro ⟨Ha, -, ⟨Ho, -⟩, Hb, HO⟩
  isplitl [Ha Ho]; · isplitl [Ha] <;> iassumption
  isplitl [Hb] <;> iassumption

/-! ## The launch -/

/-- The barrier cells, and the cells of the call's own semaphores. -/
def barEmb : Dev nD ↪ GSem nD τ sig := ⟨fun c => cell .bar c, fun _ _ h => (cell_inj h).2⟩
theorem own_inj : Function.Injective own := by decide
def ownEmb : Dev nD × Fin 4 ↪ GSem nD τ sig :=
  ⟨fun ck => ((ck.1 : Thread nD τ), own ck.2), fun _ _ h =>
    Prod.ext (congrArg (fun g : GSem nD τ sig => g.1.1) h) (own_inj (congrArg Prod.snd h))⟩
abbrev barCells : Finset (GSem nD τ sig) := Finset.univ.map barEmb
abbrev ownCells : Finset (GSem nD τ sig) := Finset.univ.map ownEmb

/-- The roles numbered, for the tokens: one for each cell. -/
abbrev role : Fin 5 → Role := fun | 0 => .bar | 1 => .sentO | 2 => .sentS | 3 => .gotO | 4 => .gotS
theorem role_inj : Function.Injective role := by decide
def duties : Finset (GSem nD τ sig × ℕ × Unit) :=
  Finset.univ.map ⟨fun ck : Dev nD × Fin 5 => (cell (role ck.2) ck.1, 0, ()), fun _ _ h =>
    have e := cell_inj (congrArg Prod.fst h)
    Prod.ext e.2 (role_inj e.1)⟩

theorem own_ne_bar : ∀ k : Fin 4, own k ≠ Role.sem .bar := by decide
theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact own_ne_bar ck.2 (congrArg Prod.snd h)

theorem cell_mem (p : Role) (c : Dev nD) : cell p c ∈ (barCells ∪ ownCells : Finset (GSem nD τ sig)) := by
  cases p
  · exact Finset.mem_union_left _ (Finset.mem_map_of_mem barEmb (Finset.mem_univ c))
  · exact Finset.mem_union_right _ (Finset.mem_map_of_mem ownEmb (Finset.mem_univ (c, (0 : Fin 4))))
  · exact Finset.mem_union_right _ (Finset.mem_map_of_mem ownEmb (Finset.mem_univ (c, (1 : Fin 4))))
  · exact Finset.mem_union_right _ (Finset.mem_map_of_mem ownEmb (Finset.mem_univ (c, (2 : Fin 4))))
  · exact Finset.mem_union_right _ (Finset.mem_map_of_mem ownEmb (Finset.mem_univ (c, (3 : Fin 4))))

/-- The launch's ghost element: the pipeline's own, and the exchange's. -/
def u₀ : UU :=
  (initOf (Pipeline.cells (Pipeline.pin (pcfgs (F := F)) adm) cellOf_inj) (Pipeline.launchToks (Pipeline.pin (pcfgs (F := F)) adm) cellOf_inj),
    launchOf barCells ownCells duties)

/-- The exchange's element, kept on device 0 until it is dealt. -/
def parked (c : Dev nD) : sProp 𝕄 := if c = 0 then BI.own (ER (launchOf barCells ownCells duties)) else iprop(emp)
theorem parked_all : bigSep Finset.univ (parked (F := F)) = (BI.own (ER (launchOf barCells ownCells duties)) : sProp 𝕄) := by
  rw [bigSep_univ_at _ (0 : Dev nD), bigSep_congr (s := Finset.univ.erase 0) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- What every device may consult: all the invariants, and that every barrier has its first round. -/
def records (κ : GSem nD τ sig → ℕ) : sProp 𝕄 :=
  iprop((bigSep (barCells ∪ ownCells) fun g => cellInv ER (plan (blocks m)) (κ g) g) ∗ bigSep barCells fun g => reached ER g 0)
instance records_persistent (κ : GSem nD τ sig → ℕ) : BI.Persistent (records m κ) := by unfold records; infer_instance

theorem inv_at (κ : GSem nD τ sig → ℕ) (p : Role) (c : Dev nD) :
    (bigSep (barCells ∪ ownCells) fun g => (cellInv ER (plan (blocks m)) (κ g) g : sProp 𝕄)) ⊢ cellInv ER (plan (blocks m)) (κ (cell p c)) (cell p c) :=
  bigSep_elim (cell_mem p c)
theorem reached_at (c : Dev nD) : (bigSep barCells fun g => (reached ER g 0 : sProp 𝕄)) ⊢ reached ER (cell .bar c) 0 :=
  bigSep_elim (Finset.mem_map_of_mem barEmb (Finset.mem_univ c))

/-- What one device is dealt. -/
def dealt (c : Dev nD) : sProp 𝕄 := iprop(atPos ER (cell .bar c) 0 ∅ 0 ∗ rights c ∗ tokens c)

theorem ghost_of_dealt (κ : GSem nD τ sig → ℕ) (c : Dev nD) : iprop(records m κ ∗ dealt c) ⊢ iprop(∃ K, ghost (blocks m) K c) := by
  unfold records dealt ghost invs
  iintro ⟨⟨#HI, #HR⟩, HaB, Hr, Ht⟩
  iexists κ
  isplitr
  · isplitr
    · isplitr; · iapply (inv_at m κ .bar c); iexact HI
      isplitr; · iapply (inv_at m κ .sentO c); iexact HI
      isplitr; · iapply (inv_at m κ .sentS c); iexact HI
      isplitr; · iapply (inv_at m κ .gotO c); iexact HI
      iapply (inv_at m κ .gotS c); iexact HI
    isplitr; · iapply (inv_at m κ .bar (mate c)); iexact HI
    isplitr; · iapply (inv_at m κ .gotO (mate c)); iexact HI
    iapply (inv_at m κ .gotS (mate c)); iexact HI
  isplitl [HaB]; · iexact HaB
  isplitl [Hr]; · iexact Hr
  isplitr; · iapply (reached_at (F := F) (mate c)); iexact HR
  iexact Ht

theorem bigSep_five {M : Type} [URA M] (Φ : Fin 5 → sProp M) : bigSep Finset.univ Φ = iprop(Φ 0 ∗ Φ 1 ∗ Φ 2 ∗ Φ 3 ∗ Φ 4) :=
  bigSep_univ_eq_bigSepL [0, 1, 2, 3, 4] (by decide) (by decide) Φ

/-- The tokens cell by cell, then with the barrier's and the arrivals' handed to the partner, which pays them. -/
theorem tokens_of_duties :
    bigSep duties (fun x => (dutyTok ER x.1 x.2.1 x.2.2 : sProp 𝕄)) ⊢ bigSep Finset.univ fun c : Dev nD => tokens c := by
  unfold duties tokens
  rw [bigSep_map, bigSep_univ_prod]
  rw [bigSep_congr (s := Finset.univ) (Ψ := fun c : Dev nD => iprop(dutyTok ER (cell .bar c) 0 () ∗ dutyTok ER (cell .sentO c) 0 ()
      ∗ dutyTok ER (cell .sentS c) 0 () ∗ dutyTok ER (cell .gotO c) 0 () ∗ dutyTok ER (cell .gotS c) 0 ()))
    fun c _ => by rw [bigSep_five]; rfl]
  rw [bigSep_sep', bigSep_sep', bigSep_sep', bigSep_sep', bigSep_sep', bigSep_sep', bigSep_sep', bigSep_sep',
    bigSep_univ_equiv mates (fun c : Dev nD => (dutyTok ER (cell .bar c) 0 () : sProp 𝕄)),
    bigSep_univ_equiv mates (fun c : Dev nD => (dutyTok ER (cell .gotO c) 0 () : sProp 𝕄)),
    bigSep_univ_equiv mates (fun c : Dev nD => (dutyTok ER (cell .gotS c) 0 () : sProp 𝕄))]
  exact BI.Entails.refl _

/-! ### The launch credit -/

theorem mate_flip {d c : Dev nD} (h : mate d = c) : d = mate c := by rw [← h, mate_mate]

theorem tally_here (p : Role) (n : ℕ) (d c : Dev nD) :
    (tallyAt (cell p (mate d)) () n : CellTallies nD τ sig Unit) (cell p c) () = if d = mate c then n else 0 := by
  rw [tallyAt_apply]
  by_cases h : d = mate c
  · subst h; rw [mate_mate, if_pos ⟨rfl, rfl⟩, if_pos rfl]
  · rw [if_neg (fun hh => h (mate_flip (cell_inj hh.1).2.symm)), if_neg h]
theorem tally_else (p p' : Role) (hp : p ≠ p') (n : ℕ) (d c : Dev nD) :
    (tallyAt (cell p (mate d)) () n : CellTallies nD τ sig Unit) (cell p' c) () = 0 := by
  rw [tallyAt_apply, if_neg fun hh => hp (cell_inj hh.1).1.symm]

theorem owed_at (p : Role) (n : ℕ) (hn : (p = .bar ∧ n = 1) ∨ (p = .gotO ∧ n = nO) ∨ (p = .gotS ∧ n = nS)) (d c : Dev nD) :
    owedBy d (cell p c) () = if d = mate c then n else 0 := by
  unfold owedBy
  rw [Pi.add_apply, Finsupp.add_apply, Pi.add_apply, Finsupp.add_apply]
  rcases hn with ⟨rfl, rfl⟩ | ⟨rfl, rfl⟩ | ⟨rfl, rfl⟩
  · rw [tally_here, tally_else _ _ (by decide), tally_else _ _ (by decide)]; simp only [Nat.zero_add, Nat.add_zero]
  · rw [tally_here, tally_else _ _ (by decide), tally_else _ _ (by decide)]; simp only [Nat.zero_add, Nat.add_zero]
  · rw [tally_here, tally_else _ _ (by decide), tally_else _ _ (by decide)]; simp only [Nat.zero_add, Nat.add_zero]

theorem credit_at (p : Role) (n : ℕ) (hn : (p = .bar ∧ n = 1) ∨ (p = .gotO ∧ n = nO) ∨ (p = .gotS ∧ n = nS)) (c : Dev nD) :
    tallyOn (cell p c) (launchCredit (Pipeline.owing owedBy) 0 (cell p c)) = (tallyAt (cell p c) () n : CellTallies nD τ sig Unit) := by
  unfold tallyAt; refine congrArg _ (Finsupp.ext fun u => ?_); cases u
  rw [Pipeline.launchCredit_owing, Finsupp.single_eq_same, Finset.sum_congr rfl fun d _ => owed_at p n hn d c,
    Finset.sum_ite_eq' Finset.univ (mate c) fun _ => n, if_pos (Finset.mem_univ _)]

theorem credits_of_launch (c : Dev nD) : (Pipeline.launchCred owedBy c : sProp 𝕄) ⊢ credits c := by
  unfold Pipeline.launchCred credits
  have hO : Role.sem .gotO ∈ (Finset.univ : Finset (SemLoc sig)).erase (Role.sem .bar) := by decide
  have hS : Role.sem .gotS ∈ ((Finset.univ : Finset (SemLoc sig)).erase (Role.sem .bar)).erase (Role.sem .gotO) := by decide
  rw [bigSep_univ_at _ (Role.sem .bar), credit_at .bar 1 (.inl ⟨rfl, rfl⟩), bigSep_erase hO, credit_at .gotO nO (.inr (.inl ⟨rfl, rfl⟩)),
    ← credit_at .gotS nS (.inr (.inr ⟨rfl, rfl⟩))]
  exact sep_mono_right (sep_mono_right (bigSep_elim hS))

/-! ### The run -/

abbrev first (c : Dev nD) : sProp 𝕄 := iprop(StableHlo.held (c : Thread nD τ) (Pipeline.ucRefs τ sig) (launched m c) ∗ riding m c)

/-- The device's buffers when the program has returned. -/
def V2 (c : Dev nD) : Valuation τ sig (Elt F) := StableHlo.after hostOps1 (V1 m c)

abbrev last (c : Dev nD) : sProp 𝕄 := iprop(StableHlo.held (c : Thread nD τ) (Pipeline.ucRefs τ sig) (V2 m c) ∗ semVal (cell .bar c) 0)

/-- What of a device's launch is not the exchange's ghost state. -/
def bundle (c : Dev nD) : sProp 𝕄 :=
  iprop(StableHlo.held (c : Thread nD τ) (Pipeline.ucRefs τ sig) (launched m c) ∗ credits c
    ∗ owes (c : Thread nD τ) (owedBy c) ∅ ∗ ∃ r, prngReg c r)

theorem first_intro (κ : GSem nD τ sig → ℕ) (c : Dev nD) : iprop(records m κ ∗ (dealt c ∗ bundle m c)) ⊢ first m c := by
  unfold bundle first riding
  iintro ⟨#HR, Hd, Hh, Hcr, HO, Hp⟩
  isplitl [Hh]; · iexact Hh
  isplitl [Hd Hcr]
  · isplitl [Hd]
    · iapply (ghost_of_dealt m κ c)
      isplitr; · iexact HR
      iexact Hd
    iexact Hcr
  isplitl [Hp]; · iexact Hp
  iexists ∅; iexact HO

theorem bar_counter (c : Dev nD) : (unscopedSems0 c : sProp 𝕄) = semVal (cell .bar c) 0 := by
  unfold unscopedSems0
  rw [show (Finset.univ.filter fun sm : SemLoc sig => ¬ sm.isScoped .tc) = {Role.sem .bar} from by decide, BI.bigSep_singleton]

/-- What one device is launched with. -/
abbrev launchedWith (c : Dev nD) : sProp 𝕄 :=
  iprop(unscopedBufs c (fun b => m ((c : Thread nD τ).loc b)) ∗ unscopedSems0 c
    ∗ owes (c : Thread nD τ) (owedBy c) ∅ ∗ Pipeline.launchCred owedBy c ∗ prngReg c (ρ c) ∗ parked c)

theorem sorted (c : Dev nD) : launchedWith m ρ c ⊢ (iprop(bundle m c ∗ (semVal (cell .bar c) 0 ∗ parked c)) : sProp 𝕄) := by
  unfold launchedWith
  rw [show unscopedBufs c (fun b => m ((c : Thread nD τ).loc b)) = StableHlo.held (c : Thread nD τ) (Pipeline.ucRefs τ sig) (launched m c)
    from Pipeline.unscopedBufs_held c (launched m c), bar_counter]
  unfold bundle
  iintro ⟨Hh, Hb, HO, Hcr, Hp, HG⟩
  ihave Hc := (credits_of_launch (F := F) c) $$ Hcr
  isplitl [Hh Hc HO Hp]
  · isplitl [Hh]; · iexact Hh
    isplitl [Hc]; · iexact Hc
    isplitl [HO]; · iexact HO
    iexists (ρ c); iexact Hp
  isplitl [Hb] <;> iassumption

/-- The launch deals: every cell gets its invariant, every device its share of the tokens. -/
theorem init :
    iprop((bigSep Finset.univ fun c : Dev nD => launchedWith m ρ c) ∗ levAts L lv) ⊢ (|={Set.univ}=> bigSep Finset.univ (first m) : sProp 𝕄) := by
  have hv : bigSep Finset.univ (fun c : Dev nD => (semVal (cell .bar c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell .bar c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄)) ⊢ bigSep Finset.univ (fun c : Dev nD => (rights c : sProp 𝕄)) :=
    Entails.of_eq (by
      rw [bigSep_map, bigSep_univ_prod]
      exact bigSep_congr fun c _ => bigSep_four (fun k : Fin 4 => (openTok ER ((c : Thread nD τ), own k) : sProp 𝕄)))
  iintro ⟨H, -⟩
  ihave H' := (show (bigSep Finset.univ fun c : Dev nD => launchedWith m ρ c)
      ⊢ (bigSep Finset.univ fun c : Dev nD => iprop(bundle m c ∗ (semVal (cell .bar c) 0 ∗ parked c)) : sProp 𝕄)
    from bigSep_mono fun c _ => sorted m ρ c) $$ H
  ihave H2 := Smoke.bigSep_unpair $$ H'; icases H2 with ⟨HB, H3⟩
  ihave H4 := Smoke.bigSep_unpair $$ H3; icases H4 with ⟨Hv, HG⟩
  ihave Hu := (show bigSep Finset.univ (parked (F := F)) ⊢ BI.own (ER (launchOf barCells ownCells duties)) from
    Entails.of_eq (parked_all (F := F))) $$ HG
  imod (Rounds.fund_launch ER (plan (blocks m)) cells_disjoint (fun g _ h => h) duties) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(dealt c ∗ bundle m c)) fun c _ => first_intro m κ c)
  isplitr
  · unfold records
    isplitr; · iexact Hinv
    iexact Hr
  iapply Smoke.bigSep_pair
  isplitr [HB]
  · unfold dealt
    iapply Smoke.bigSep_pair; isplitl [Hat]; · iapply hat $$ Hat
    iapply Smoke.bigSep_pair; isplitl [Hopen]; · iapply hopen $$ Hopen
    iapply (tokens_of_duties (F := F)); iexact Htok
  · iexact HB

theorem unscoped_sem : ∀ sm : SemLoc sig, sm.isScoped .tc = false → sm = Role.sem .bar := by decide

/-- The buffers the claims speak of: the arguments and the result. -/
abbrev named : List (DevRef τ sig) :=
  [Proc.devRef .tc main_arg0, Proc.devRef .tc main_arg1, Proc.devRef .tc main_arg2, Proc.devRef .tc main_arg3, Proc.devRef .tc main_arg4, Proc.devRef .tc main_v13]

theorem named_sub : named.toFinset ⊆ Pipeline.ucRefs τ sig := by decide

theorem named_held (c : Dev nD) (W : Valuation τ sig (Elt F)) :
    (StableHlo.held (c.tc : Thread nD τ) named.toFinset W : sProp 𝕄)
      = iprop((((c : Thread nD τ).loc main_arg0) ↦{fullShare} W (Proc.devRef .tc main_arg0)) ∗ (((c : Thread nD τ).loc main_arg1) ↦{fullShare} W (Proc.devRef .tc main_arg1))
        ∗ (((c : Thread nD τ).loc main_arg2) ↦{fullShare} W (Proc.devRef .tc main_arg2)) ∗ (((c : Thread nD τ).loc main_arg3) ↦{fullShare} W (Proc.devRef .tc main_arg3))
        ∗ (((c : Thread nD τ).loc main_arg4) ↦{fullShare} W (Proc.devRef .tc main_arg4)) ∗ (((c : Thread nD τ).loc main_v13) ↦{fullShare} W (Proc.devRef .tc main_v13))) := by
  unfold StableHlo.held
  rw [bigSep_eq_bigSepL_of_eq named (by decide) (by decide)]
  rfl

/-- The program writes no argument. -/
theorem V2_keeps (c : Dev nD) (b : Ref sig .tc) (h0 : V m c b = m ((c : Thread nD τ).loc b))
    (h : b ≠ main_v11 ∧ b ≠ main_v12 ∧ b ≠ main_v13) : V2 m c (Proc.devRef .tc b) = m ((c : Thread nD τ).loc b) := by
  unfold V2
  rw [StableHlo.after_of_forall_not_mem (b := Proc.devRef .tc b) _ _ (List.forall_iff_forall_mem.mp (by
      simp only [hostOps1, List.Forall, StableHlo.unary_writes, StableHlo.reshape_writes, Finset.mem_singleton]
      exact ⟨StableHlo.devRef_ne_of_ne h.2.1, StableHlo.devRef_ne_of_ne h.2.2⟩)), V1_ne m c _ (StableHlo.devRef_ne_of_ne h.1)]
  exact h0

set_option backward.isDefEq.respectTransparency.types false in
/-- From any memory with zero counters, every fair execution of the program ends with every argument as it
    was, the result laid out from the merge, and every counter at zero. -/
theorem run_main : θ_run defs (onTc (τ := τ) (main (F := F))) (s₀ m ρ)
    (fun r => (∀ c : Dev nD, r.2.mem ((c : Thread nD τ).loc main_v13) = V2 m c (Proc.devRef .tc main_v13)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main
    [.host (seg0 m), .region (reg m), .host (seg1 m)]
    (fun c Q => by rw [main_segs adm (pdats m) () 𝒱₀ L lv (seg0 m) (seg1 m) (reg m) rfl rfl c])
    (by simp only [Pipeline.Seg.pipes_host, Pipeline.Seg.pipes_region, Pipeline.Seg.pipes_nil]; decide)
    (O₀ := owedBy) (hL := L_of_ne) (G := parked) (u₀ := u₀)
    (hu₀ := by
      unfold u₀
      iintro Hu
      ihave H := (ownU_pair _ _) $$ Hu
      icases H with ⟨HP, HX⟩
      imodintro
      isplitl [HP]; · iexact HP
      rw [parked_all]; iexact HX)
    (T₀ := first m) (Tₙ := last m)
    (hch := by
      refine ⟨fun c => .rfl, fun c => reg_pre m c, fun c => reg_post m c, fun c => ?_⟩
      show iprop(StableHlo.held (c : Thread nD τ) (Pipeline.ucRefs τ sig) (V2 m c) ∗ rest c)
        ⊢ iprop(last m c ∗ ∃ W, owes (c : Thread nD τ) (0 : CellTallies nD τ sig Unit) W)
      unfold rest
      iintro ⟨Hh, Hb0, HO⟩
      isplitr [HO]
      · isplitl [Hh] <;> iassumption
      · iexact HO)
    (hinit := init m ρ)
    (QY := fun c s => (s.mem ((c : Thread nD τ).loc main_v13) = V2 m c (Proc.devRef .tc main_v13)
        ∧ s.mem ((c : Thread nD τ).loc main_arg0) = V2 m c (Proc.devRef .tc main_arg0)
        ∧ s.mem ((c : Thread nD τ).loc main_arg1) = V2 m c (Proc.devRef .tc main_arg1)
        ∧ s.mem ((c : Thread nD τ).loc main_arg2) = V2 m c (Proc.devRef .tc main_arg2)
        ∧ s.mem ((c : Thread nD τ).loc main_arg3) = V2 m c (Proc.devRef .tc main_arg3)
        ∧ s.mem ((c : Thread nD τ).loc main_arg4) = V2 m c (Proc.devRef .tc main_arg4)) ∧ s.sem (cell .bar c) = 0)
    (hfin := fun c s' => by
      dsimp only [last]
      rw [StableHlo.held_sub_split (c.tc : Thread nD τ) named_sub, named_held]
      iintro ⟨⟨⟨⟨H0, H1, H2, H3, H4, Hr⟩, -⟩, Hb0⟩, HSI⟩
      icombine HSI H0 gives %h0
      icombine HSI H1 gives %h1
      icombine HSI H2 gives %h2
      icombine HSI H3 gives %h3
      icombine HSI H4 gives %h4
      icombine HSI Hr gives %hr
      icombine HSI Hb0 gives %hb
      imodintro
      isplitr
      · ipureintro
        exact ⟨⟨Buf.eq_of_forall_mem_univ hr, Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => by
        obtain ⟨⟨hr, h0, h1, h2, h3, h4⟩, -⟩ := h c
        exact ⟨hr, h0.trans (V2_keeps m c main_arg0 (V_main_arg0 m c) (by decide)), h1.trans (V2_keeps m c main_arg1 (V_main_arg1 m c) (by decide)),
          h2.trans (V2_keeps m c main_arg2 (V_main_arg2 m c) (by decide)), h3.trans (V2_keeps m c main_arg3 (V_main_arg3 m c) (by decide)),
          h4.trans (V2_keeps m c main_arg4 (V_main_arg4 m c) (by decide))⟩,
      sem_eq_zero hs fun c sm hsm => by
        obtain rfl := unscoped_sem sm hsm
        exact (h c).2⟩)

end Cert.KernelIdeal.Paged

end
-- ==== Proof.Softmax.lean ====
/-
  Softmax over pages named by a table, and the same softmax merged from two halves of the pages.

  A sequence lists pages in a table of 128 slots, of which some are live; a page may be listed more than once. Each page
  holds 16 keys with a real score and a value that may be infinite. The softmax over the listed keys
  equals a sum over all the pages in which every page counts as often as it is listed, and the shift subtracted in the
  exponentials does not matter. So two halves of the pages, each with its own shift, merge into the same number. Factors that
  are real and not negative distribute over sums of extended reals, which is all that the infinite values allow.
-/
module

public import Mathlib.Data.EReal.Inv
public import Mathlib.Analysis.SpecialFunctions.Exp
public import Mathlib.Algebra.BigOperators.Fin
public import Mathlib.Algebra.BigOperators.Field

@[expose] public section

noncomputable section

namespace Cert.Attention

/-! ## Nonnegative real factors over sums of extended reals -/

section Sums

variable {ι : Type*}

/-- A sum of reals, read as an extended real, is the sum of the readings. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes inside a sum. -/
theorem mul_sum_of_nonneg {g : ℝ} (hg : 0 ≤ g) (s : Finset ι) (f : ι → EReal) :
    (g : EReal) * ∑ i ∈ s, f i = ∑ i ∈ s, (g : EReal) * f i := by
  classical
  induction s using Finset.induction_on with
  | empty => simp
  | insert a s ha ih =>
    rw [Finset.sum_insert ha, Finset.sum_insert ha,
      EReal.left_distrib_of_nonneg_of_ne_top (by exact_mod_cast hg) (EReal.coe_ne_top g), ih]

/-- A sum of nonnegative reals times a value is the sum of the products. -/
theorem sum_mul_of_nonneg (s : Finset ι) (a : ι → ℝ) (ha : ∀ i, 0 ≤ a i) (x : EReal) :
    ((∑ i ∈ s, a i : ℝ) : EReal) * x = ∑ i ∈ s, (a i : EReal) * x := by
  classical
  induction s using Finset.induction_on with
  | empty => simp
  | insert b s hb ih =>
    rw [Finset.sum_insert hb, Finset.sum_insert hb, EReal.coe_add, EReal.right_distrib_of_nonneg
      (by exact_mod_cast ha b) (by exact_mod_cast Finset.sum_nonneg fun i _ => ha i), ih]

end Sums

/-! ## One query's keys -/

/-- One query against the pages of one sequence: which slots are live, the page each slot names, the keys' scores and
    one column of their values. -/
structure Row where
  live : Fin 128 → Prop
  page : Fin 128 → Fin 256
  score : Fin 256 → Fin 16 → ℝ
  value : Fin 256 → Fin 16 → EReal

variable (R : Row)

open Classical in
/-- How often the live slots name page `p`. -/
def Row.hits (p : Fin 256) : ℝ := ∑ j : Fin 128, if R.live j ∧ R.page j = p then (1 : ℝ) else 0

/-- The sum of the exponentials over the listed keys. -/
def Row.total : ℝ := ∑ p : Fin 256, ∑ s : Fin 16, R.hits p * Real.exp (R.score p s)

/-- The attended value: each key's value by its share of the sum. -/
def Row.attended : EReal :=
  ∑ p : Fin 256, ∑ s : Fin 16, ((R.hits p * Real.exp (R.score p s) / R.total : ℝ) : EReal) * R.value p s

theorem Row.hits_nonneg (p : Fin 256) : 0 ≤ R.hits p :=
  Finset.sum_nonneg fun j _ => by split_ifs <;> norm_num

open Classical in
/-- A sum over live slots of something read at the slot's page is a sum over pages, each as often as it is listed. -/
theorem Row.sum_slots (f : Fin 256 → ℝ) :
    (∑ j : Fin 128, if R.live j then f (R.page j) else 0) = ∑ p : Fin 256, R.hits p * f p := by
  simp only [Row.hits, Finset.sum_mul]
  rw [Finset.sum_comm]
  refine Finset.sum_congr rfl fun j _ => ?_
  by_cases h : R.live j
  · simp [h]
  · simp [h]

open Classical in
/-- The same of extended reals, each weighted by a nonnegative real. -/
theorem Row.sum_slots_mul (w : Fin 256 → ℝ) (hw : ∀ p, 0 ≤ w p) (x : Fin 256 → EReal) :
    (∑ j : Fin 128, if R.live j then (w (R.page j) : EReal) * x (R.page j) else 0)
      = ∑ p : Fin 256, ((R.hits p * w p : ℝ) : EReal) * x p := by
  have h : ∀ p : Fin 256, ((R.hits p * w p : ℝ) : EReal) * x p
      = ∑ j : Fin 128, (((if R.live j ∧ R.page j = p then (1 : ℝ) else 0) * w p : ℝ) : EReal) * x p := fun p => by
    rw [Row.hits, Finset.sum_mul]
    exact sum_mul_of_nonneg _ _ (fun j => mul_nonneg (by split_ifs <;> norm_num) (hw p)) _
  rw [Finset.sum_congr rfl fun p _ => h p, Finset.sum_comm]
  refine Finset.sum_congr rfl fun j _ => ?_
  by_cases hl : R.live j
  · simp only [hl, true_and, if_true]
    rw [Finset.sum_eq_single (R.page j)]
    · simp
    · intro p _ hp
      simp [Ne.symm hp]
    · simp
  · simp [hl]

/-- A live slot makes the sum positive. -/
theorem Row.total_pos (h : ∃ j, R.live j) : 0 < R.total := by
  classical
  obtain ⟨j, hj⟩ := h
  have hnn : ∀ p, 0 ≤ ∑ s : Fin 16, R.hits p * Real.exp (R.score p s) := fun p =>
    Finset.sum_nonneg fun s _ => mul_nonneg (R.hits_nonneg p) (Real.exp_pos _).le
  refine Finset.sum_pos' (fun p _ => hnn p) ⟨R.page j, Finset.mem_univ _, ?_⟩
  have hh : 0 < R.hits (R.page j) :=
    Finset.sum_pos' (fun i _ => by split_ifs <;> norm_num) ⟨j, Finset.mem_univ _, by simp [hj]⟩
  exact Finset.sum_pos (fun s _ => mul_pos hh (Real.exp_pos _)) Finset.univ_nonempty

/-- Shifting every score by `M` scales the sum by `exp (-M)`. -/
theorem Row.total_shift (M : ℝ) :
    (∑ p : Fin 256, ∑ s : Fin 16, R.hits p * Real.exp (R.score p s - M)) = R.total / Real.exp M := by
  simp only [Row.total, Finset.sum_div, Real.exp_sub, mul_div_assoc]

/-- A shifted share is the share. -/
theorem Row.share_shift (M : ℝ) (p : Fin 256) (s : Fin 16) :
    R.hits p * Real.exp (R.score p s - M) / (R.total / Real.exp M) = R.hits p * Real.exp (R.score p s) / R.total := by
  have hM := (Real.exp_pos M).ne'
  rw [Real.exp_sub]
  by_cases hT : R.total = 0
  · simp [hT]
  · field_simp

/-! ## The softmax over the slots -/

open Classical in
/-- The weights of the slots, shifted by `M`, add up to the shifted sum. -/
theorem Row.slots_sum (M : ℝ) :
    (∑ j : Fin 128, ∑ s : Fin 16, if R.live j then Real.exp (R.score (R.page j) s - M) else 0) = R.total / Real.exp M := by
  rw [← R.total_shift M, Finset.sum_comm, Finset.sum_comm (γ := Fin 256)]
  exact Finset.sum_congr rfl fun s _ => R.sum_slots fun p => Real.exp (R.score p s - M)

open Classical in
/-- The softmax taken slot by slot, with any shift `M`, is the attended value: dead slots weigh nothing, whatever value
    they carry. -/
theorem Row.by_slots (M : ℝ) (x : Fin 128 → Fin 16 → EReal) (hx : ∀ j s, R.live j → x j s = R.value (R.page j) s) :
    (∑ j : Fin 128, ∑ s : Fin 16,
      (((if R.live j then Real.exp (R.score (R.page j) s - M) else 0) / (R.total / Real.exp M) : ℝ) : EReal) * x j s)
      = R.attended := by
  rw [Row.attended, Finset.sum_comm, Finset.sum_comm (γ := Fin 256)]
  refine Finset.sum_congr rfl fun s _ => ?_
  have hT : 0 ≤ R.total / Real.exp M := by
    rw [← R.total_shift M]
    exact Finset.sum_nonneg fun p _ => Finset.sum_nonneg fun s _ => mul_nonneg (R.hits_nonneg p) (Real.exp_pos _).le
  have h := R.sum_slots_mul (fun p => Real.exp (R.score p s - M) / (R.total / Real.exp M))
    (fun p => div_nonneg (Real.exp_pos _).le hT) (fun p => R.value p s)
  refine Eq.trans (Finset.sum_congr rfl fun j _ => ?_) (h.trans (Finset.sum_congr rfl fun p _ => ?_))
  · by_cases hl : R.live j
    · rw [if_pos hl, if_pos hl, hx j s hl]
    · rw [if_neg hl, if_neg hl]
      simp
  · rw [← mul_div_assoc, R.share_shift]

/-! ## The softmax merged from two halves of the pages -/

/-- Page `p` of half `x`. -/
def halfPage (x : Fin 2) (p : Fin 128) : Fin 256 := ⟨p.val + 128 * x.val, by omega⟩

/-- A sum over all pages is the sum over one half and over the other. -/
theorem sum_halves {α : Type*} [AddCommMonoid α] {x y : Fin 2} (hxy : y ≠ x) (f : Fin 256 → α) :
    ∑ p : Fin 256, f p = (∑ p : Fin 128, f (halfPage x p)) + ∑ p : Fin 128, f (halfPage y p) := by
  have h : ∑ p : Fin 256, f p = (∑ p : Fin 128, f (halfPage 0 p)) + ∑ p : Fin 128, f (halfPage 1 p) := by
    refine (Fin.sum_univ_add (a := 128) (b := 128) f).trans ?_
    congr 1
  rw [h]
  match x, y, hxy with
  | 0, 0, hxy => exact absurd rfl hxy
  | 0, 1, _ => rfl
  | 1, 0, _ => exact add_comm _ _
  | 1, 1, hxy => exact absurd rfl hxy

/-- One half's sum of weights under the shift `m`. -/
def Row.halfSum (x : Fin 2) (m : ℝ) : ℝ :=
  ∑ p : Fin 128, ∑ s : Fin 16, Real.exp (R.score (halfPage x p) s - m) * R.hits (halfPage x p)

/-- One half's weighted values under the shift `m`, not yet divided. -/
def Row.halfOut (x : Fin 2) (m : ℝ) : EReal :=
  ∑ p : Fin 128, ∑ s : Fin 16,
    ((Real.exp (R.score (halfPage x p) s - m) * R.hits (halfPage x p) : ℝ) : EReal) * R.value (halfPage x p) s

/-- Changing a half's shift from `m` to `M` scales its weights by `exp (m - M)`. -/
theorem reshift (σ c m M : ℝ) : Real.exp (m - M) * (Real.exp (σ - m) * c) = c * Real.exp (σ - M) := by
  rw [← mul_assoc, ← Real.exp_add, show m - M + (σ - m) = σ - M by ring, mul_comm]

/-- The two halves, each under its own shift and brought to a common shift `M`, add up to the sum shifted by `M`. -/
theorem Row.merged_sum {x y : Fin 2} (hxy : y ≠ x) (m n M : ℝ) :
    Real.exp (m - M) * R.halfSum x m + Real.exp (n - M) * R.halfSum y n = R.total / Real.exp M := by
  rw [← R.total_shift M, sum_halves hxy]
  simp only [Row.halfSum, Finset.mul_sum, reshift]

/-- The two halves merged are the attended value. -/
theorem Row.merged_out {x y : Fin 2} (hxy : y ≠ x) (m n M : ℝ) :
    ((Real.exp (m - M) / (R.total / Real.exp M) : ℝ) : EReal) * R.halfOut x m
      + ((Real.exp (n - M) / (R.total / Real.exp M) : ℝ) : EReal) * R.halfOut y n = R.attended := by
  have hT : 0 ≤ R.total / Real.exp M := by
    rw [← R.total_shift M]
    exact Finset.sum_nonneg fun p _ => Finset.sum_nonneg fun s _ => mul_nonneg (R.hits_nonneg p) (Real.exp_pos _).le
  have hg : ∀ z : ℝ, 0 ≤ Real.exp (z - M) / (R.total / Real.exp M) := fun z => div_nonneg (Real.exp_pos _).le hT
  have half : ∀ (z : Fin 2) (k : ℝ), ((Real.exp (k - M) / (R.total / Real.exp M) : ℝ) : EReal) * R.halfOut z k
      = ∑ p : Fin 128, ∑ s : Fin 16,
        ((R.hits (halfPage z p) * Real.exp (R.score (halfPage z p) s) / R.total : ℝ) : EReal) * R.value (halfPage z p) s := by
    intro z k
    rw [Row.halfOut, mul_sum_of_nonneg (hg k)]
    refine Finset.sum_congr rfl fun p _ => ?_
    rw [mul_sum_of_nonneg (hg k)]
    refine Finset.sum_congr rfl fun s _ => ?_
    rw [← mul_assoc, ← EReal.coe_mul, div_mul_eq_mul_div, reshift, R.share_shift]
  rw [half, half, Row.attended, sum_halves hxy]

end Cert.Attention

end
-- ==== Proof.Rows.lean ====
/-
  One query of the whole arrays: the row of scores and values it attends, and the assumptions under which the scores are
  real numbers and the table names pages that exist.
-/
module

public import proofs.«01_k».proof.Proof.Softmax
public import Idealize.ShloMosaic.Lib.Pointwise
public import Idealize.ShloMosaic.Lib.Affine

@[expose] public section

noncomputable section

namespace Cert.Attention

open Idealize.ShloMosaic

/-! ## The constants -/

/-- The scale of the scores is one eighth. -/
theorem eighth_bits : Ideal.ofBits .f32 0x3E000000#32 = ((1 / 8 : ℝ) : EReal) := by
  simp [Ideal.ofBits, Ideal.ieee, -EReal.coe_mul]; norm_num

/-- What an unlisted page scores is a real number. -/
theorem low_bits : ∃ r : ℝ, Ideal.ofBits .f32 0xF149F2CA#32 = (r : EReal) := by
  simp only [Ideal.ofBits, Ideal.ieee]
  simp [-EReal.coe_mul]
  exact ⟨_, rfl⟩

/-- The largest of no scores is minus infinity. -/
theorem least_bits : Ideal.ofBits .f32 0xFF800000#32 = ⊥ := by
  simp [Ideal.ofBits, Ideal.ieee]

/-! ## Maxima of extended reals -/

/-- The maximum of numbers none of which is plus infinity, one of which is not minus infinity, is real. -/
theorem fold_max_real {ι : Type*} (s : Finset ι) (f : ι → EReal) (htop : ∀ i ∈ s, f i ≠ ⊤) (hbot : ∃ i ∈ s, f i ≠ ⊥) :
    ∃ M : ℝ, s.fold max ⊥ f = (M : EReal) := by
  have h1 : s.fold max ⊥ f < ⊤ := (Finset.fold_max_lt _).2 ⟨bot_lt_top, fun i hi => lt_top_iff_ne_top.2 (htop i hi)⟩
  have h2 : s.fold max ⊥ f ≠ ⊥ := by
    obtain ⟨i, hi, hb⟩ := hbot
    intro h
    exact hb (le_bot_iff.1 (h ▸ (Finset.le_fold_max (f i)).2 (Or.inr ⟨i, hi, le_rfl⟩)))
  exact ⟨_, (EReal.coe_toReal h1.ne h2).symm⟩

/-! ## Keys, sixteen to a page -/

/-- Key `t`'s page among 128, and its place in that page. -/
abbrev keyPage (t : Fin 2048) : Fin 128 := ⟨t.val / 16, by omega⟩
abbrev keyPlace (t : Fin 2048) : Fin 16 := ⟨t.val % 16, by omega⟩

/-- A sum over the keys is a sum over pages and places. -/
theorem sum_keys {α : Type*} [AddCommMonoid α] (f : Fin 128 → Fin 16 → α) :
    ∑ t : Fin 2048, f (keyPage t) (keyPlace t) = ∑ p : Fin 128, ∑ s : Fin 16, f p s := by
  rw [Fin.sum_univ_tiles 128 16 rfl]
  refine Finset.sum_congr rfl fun p _ => Finset.sum_congr rfl fun s _ => ?_
  congr 1
  · exact Fin.ext (by simp only [keyPage]; omega)
  · exact Fin.ext (by simp only [keyPlace]; omega)

/-! ## The row of one query -/

/-- The whole arrays: queries, keys, values, the table, the lengths. -/
structure Arrays where
  q : (⟨4, ![16, 1, 16, 64]⟩ : Shape).Idx → EReal
  k : (⟨4, ![256, 16, 16, 64]⟩ : Shape).Idx → EReal
  v : (⟨4, ![256, 16, 16, 64]⟩ : Shape).Idx → EReal
  bt : (⟨2, ![16, 128]⟩ : Shape).Idx → BitVec 32
  ln : (⟨1, ![16]⟩ : Shape).Idx → BitVec 32

variable (A : Arrays)

/-- Slot `j` of sequence `i` is live: it lies below the sequence's length. -/
def Arrays.live (i : Fin 16) (j : Fin 128) : Prop := (j.val : Int) < (A.ln (ix1 i)).toInt

/-- The page that slot `j` of sequence `i` names, read as the reference reads it. -/
def Arrays.page (i : Fin 16) (j : Fin 128) : Fin 256 := ⟨min (A.bt (ix2 i j)).toInt.toNat 255, by omega⟩

/-- The score of the key at place `s` of page `p`, for head `h` of sequence `i`. -/
def Arrays.score (i h : Fin 16) (p : Fin 256) (s : Fin 16) : ℝ :=
  (∑ e : Fin 64, (A.q (ix4 i 0 h e)).toReal * (A.k (ix4 p s h e)).toReal) * (1 / 8)

/-- What head `h` of sequence `i` attends, at column `d` of the values. -/
def Arrays.row (i h : Fin 16) (d : Fin 64) : Row where
  live := A.live i
  page := A.page i
  score := A.score i h
  value p s := A.v (ix4 p s h d)

/-- The queries and the keys are real numbers, every sequence has a live slot, and live slots name pages that exist. -/
structure Arrays.Sound : Prop where
  q_real : ∀ x, A.q x = ((A.q x).toReal : EReal)
  k_real : ∀ x, A.k x = ((A.k x).toReal : EReal)
  length : ∀ i : Fin 16, 1 ≤ (A.ln (ix1 i)).toInt
  table : ∀ (i : Fin 16) (j : Fin 128), A.live i j → 0 ≤ (A.bt (ix2 i j)).toInt ∧ (A.bt (ix2 i j)).toInt < 256

variable {A}

/-- The first slot is live. -/
theorem Arrays.Sound.some_live (S : A.Sound) (i h : Fin 16) (d : Fin 64) : ∃ j, (A.row i h d).live j :=
  ⟨0, lt_of_lt_of_le (by norm_num) (S.length i)⟩

/-- The scaled product of a query and a key is their score. -/
theorem Arrays.Sound.score_eq (S : A.Sound) (i h : Fin 16) (p : Fin 256) (s : Fin 16) :
    (∑ e : Fin 64, A.q (ix4 i 0 h e) * A.k (ix4 p s h e)) * ((1 / 8 : ℝ) : EReal) = (A.score i h p s : EReal) := by
  rw [Arrays.score, EReal.coe_mul, coe_sum]
  congr 1
  refine Finset.sum_congr rfl fun e _ => ?_
  rw [EReal.coe_mul, ← S.q_real, ← S.k_real]

/-- A live slot's page, as a number. -/
theorem Arrays.Sound.page_val (S : A.Sound) {i : Fin 16} {j : Fin 128} (hl : A.live i j) :
    ((A.page i j).val : Int) = (A.bt (ix2 i j)).toInt := by
  have h := S.table i j hl
  simp only [Arrays.page]
  omega

end Cert.Attention

end
-- ==== Proof.HeadValue.lean ====
/-
  One device's partial results, and their merge, as rows of the whole arrays.

  A device that reads its half of the pages finds, for each sequence, how often its live slots name each of its pages.
  The weights of its keys under its own row maximum, each counted that often, give its sum and its output; merged with
  the other half's they give what the row attends.
-/
module

public import proofs.«01_k».proof.Proof.Partial
public import proofs.«01_k».proof.Proof.Rows

@[expose] public section

set_option maxRecDepth 16384

noncomputable section

namespace Cert.KernelIdeal.Paged

open Idealize.ShloMosaic Idealize.ShloMosaic.TcCoe
open Cert.KernelIdeal.Gen Cert.Attention

/-! ## The rows of the buffers at an index -/

section Planes
variable {F : FTy → Type}

theorem qRow_at (x : Vec F S16x16x64 .bf16) (h i : Fin 16) (e : Fin 64) : qRow x h (ix3 0 i e) = x (ix3 h i e) :=
  congrArg x (funext fun a => Fin.ext (by fin_cases a <;> simp [Rect.emb, Rect.unit]))
theorem kRow_at (x : Vec F S16x2048x64 .bf16) (h : Fin 16) (t : Fin 2048) (e : Fin 64) : kRow x h (ix3 0 t e) = x (ix3 h t e) :=
  congrArg x (funext fun a => Fin.ext (by fin_cases a <;> simp [Rect.emb, Rect.unit]))
theorem vRow_at (x : Vec F S16x2048x64 .bf16) (h : Fin 16) (t : Fin 2048) (e : Fin 64) : vRow x h (ix3 0 t e) = x (ix3 h t e) :=
  congrArg x (funext fun a => Fin.ext (by fin_cases a <;> simp [Rect.emb, Rect.unit]))
theorem mlRow_at (x : Vec F S2x16x16 .f32) (r : Fin 2) (i h : Fin 16) : mlRow x r (ix3 0 i h) = x (ix3 r i h) :=
  congrArg x (funext fun a => Fin.ext (by fin_cases a <;> simp [Rect.emb, Rect.unit]))

end Planes

/-! ## The payloads at an index -/

section Payloads
variable (c : Dev nD) (bt : IVec S16x128 32) (ln : IVec S16x1 32)
variable (n : FVec Ideal S16x128x1 .f32) (q : FVec Ideal S1x16x64 .bf16) (k v : FVec Ideal S1x2048x64 .bf16)

theorem counts_apply (i : Fin 16) (p : Fin 128) (z : Fin 1) :
    k0_pay2 c bt ln (ix3 i p z) = ∑ j : Fin 128, (FloatOps.sitofp FTy.f32 (BitVec.setWidth 32 (IntOp.andi
      (IntOp.cmpi .eq (bt (ix2 i j)) (IntOp.addi (BitVec.ofNat 32 p.val)
        (Scalar.muli (Scalar.remsi (Scalar.divsi c.word 4#32) 2#32) 128#32)))
      (IntOp.cmpi .slt (BitVec.ofNat 32 j.val) (ln (ix2 i 0))))) : Ideal .f32) := by
  pointwise [k0_pay2]

theorem keyCounts_apply (i : Fin 16) (t : Fin 2048) : k0_pay3 n (ix2 i t) = n (ix3 i (keyPage t) 0) := by
  pointwise [k0_pay3]

theorem masked_apply (i : Fin 16) (t : Fin 2048) :
    k0_pay5 n q k (ix2 i t) = if 0 < n (ix3 i (keyPage t) 0)
      then (∑ e : Fin 64, q (ix3 0 i e) * k (ix3 0 t e)) * Ideal.ofBits .f32 0x3E000000#32
      else Ideal.ofBits .f32 0xF149F2CA#32 := by
  rw [← keyCounts_apply n i t]
  pointwise [k0_pay5, k0_pay4]

theorem top_apply (i : Fin 16) (z : Fin 1) :
    k0_pay6 n q k (ix2 i z) = Finset.fold max (Ideal.ofBits .f32 0xFF800000#32)
      (fun t : Fin 2048 => k0_pay5 n q k (ix2 i t)) Finset.univ := by
  pointwise [k0_pay6]

theorem weighed_apply (i : Fin 16) (t : Fin 2048) :
    k0_pay7 n q k (ix2 i t) = Ideal.exp (k0_pay5 n q k (ix2 i t) - k0_pay6 n q k (ix2 i 0)) * n (ix3 i (keyPage t) 0) := by
  rw [← keyCounts_apply n i t]
  pointwise [k0_pay7]

theorem summed_apply (i : Fin 16) (z : Fin 1) :
    k0_pay8 n q k (ix2 i z) = ∑ t : Fin 2048, k0_pay7 n q k (ix2 i t) := by
  pointwise [k0_pay8]

theorem output_apply (i : Fin 16) (z : Fin 1) (d : Fin 64) :
    k0_pay9 n q k v (ix3 z i d) = ∑ t : Fin 2048, k0_pay7 n q k (ix2 i t) * v (ix3 0 t d) := by
  pointwise [k0_pay9]

end Payloads

theorem merged_apply (o : Vec Ideal S16x16x64 .f32) (s : Vec Ideal S2x16x16 .f32) (o' : Vec Ideal S16x16x64 .f32)
    (s' : Vec Ideal S2x16x16 .f32) (h i : Fin 16) (d : Fin 64) :
    merged o s o' s' (ix3 h i d)
      = Ideal.div (Ideal.exp (mlRow s 0 (ix3 0 i h) - max (mlRow s 0 (ix3 0 i h)) (mlRow s' 0 (ix3 0 i h))))
          (Ideal.exp (mlRow s 0 (ix3 0 i h) - max (mlRow s 0 (ix3 0 i h)) (mlRow s' 0 (ix3 0 i h))) * mlRow s 1 (ix3 0 i h)
            + Ideal.exp (mlRow s' 0 (ix3 0 i h) - max (mlRow s 0 (ix3 0 i h)) (mlRow s' 0 (ix3 0 i h))) * mlRow s' 1 (ix3 0 i h))
          * o (ix3 h i d)
        + Ideal.div (Ideal.exp (mlRow s' 0 (ix3 0 i h) - max (mlRow s 0 (ix3 0 i h)) (mlRow s' 0 (ix3 0 i h))))
          (Ideal.exp (mlRow s 0 (ix3 0 i h) - max (mlRow s 0 (ix3 0 i h)) (mlRow s' 0 (ix3 0 i h))) * mlRow s 1 (ix3 0 i h)
            + Ideal.exp (mlRow s' 0 (ix3 0 i h) - max (mlRow s 0 (ix3 0 i h)) (mlRow s' 0 (ix3 0 i h))) * mlRow s' 1 (ix3 0 i h))
          * o' (ix3 h i d) := by
  pointwise [merged, k0_pay1, k0_pay109, k0_pay110, k0_pay108, k0_pay107, k0_pay106, k0_pay105, k0_pay104, k0_pay103]

/-! ## What a device that reads half `x` finds -/

/-- The half of the pages device `c` holds. -/
def half (c : Dev nD) : Fin 2 := ⟨c.val / 4 % 2, Nat.mod_lt _ (by decide)⟩

/-- The blocks read are those of the whole arrays, keys and values of half `x`. -/
structure Reads (A : Arrays) (x : Fin 2) (B : Blocks Ideal) : Prop where
  q : ∀ (h i : Fin 16) (e : Fin 64), B.q (ix3 h i e) = A.q (ix4 i 0 h e)
  k : ∀ (h : Fin 16) (t : Fin 2048) (e : Fin 64), B.k (ix3 h t e) = A.k (ix4 (halfPage x (keyPage t)) (keyPlace t) h e)
  v : ∀ (h : Fin 16) (t : Fin 2048) (e : Fin 64), B.v (ix3 h t e) = A.v (ix4 (halfPage x (keyPage t)) (keyPlace t) h e)
  bt : B.bt = A.bt
  ln : ∀ i : Fin 16, B.ln (ix2 i 0) = A.ln (ix1 i)

/-- The first page of a device's half, as the body computes it. -/
theorem base_word : ∀ c : Dev nD,
    Scalar.muli (Scalar.remsi (Scalar.divsi c.word 4#32) 2#32) 128#32 = BitVec.ofNat 32 (128 * (half c).val) := by
  decide

/-- A comparison's two bits, conjoined and read as a number. -/
theorem both_bits (a b : Bool) :
    (FloatOps.sitofp FTy.f32 (BitVec.setWidth 32 (IntOp.andi (BitVec.ofBool a) (BitVec.ofBool b))) : Ideal .f32)
      = ((if a = true ∧ b = true then (1 : ℝ) else 0 : ℝ) : EReal) := by
  have h : ∀ w : BitVec 32, (FloatOps.sitofp FTy.f32 w : Ideal .f32) = ((w.toInt : ℝ) : EReal) := fun _ => rfl
  rw [h]
  cases a <;> cases b <;> simp [IntOp.andi]

variable {A : Arrays} (S : A.Sound) {c : Dev nD} {B : Blocks Ideal} (RB : Reads A (half c) B)
include S RB

/-- The count of a page is how often the live slots name it. -/
theorem counts_eq (i : Fin 16) (p : Fin 128) (h : Fin 16) (d : Fin 64) :
    counts c B (ix3 i p 0) = ((A.row i h d).hits (halfPage (half c) p) : EReal) := by
  classical
  unfold counts
  rw [btAll_eq, lnAll_eq, counts_apply, Row.hits, coe_sum]
  refine Finset.sum_congr rfl fun j _ => ?_
  rw [RB.bt, RB.ln, base_word]
  show (FloatOps.sitofp FTy.f32 (BitVec.setWidth 32 (IntOp.andi
    (BitVec.ofBool (A.bt (ix2 i j) == BitVec.ofNat 32 p.val + BitVec.ofNat 32 (128 * (half c).val)))
    (BitVec.ofBool (decide ((BitVec.ofNat 32 j.val).toInt < (A.ln (ix1 i)).toInt))))) : Ideal .f32) = _
  rw [both_bits]
  congr 1
  have hlive : (BitVec.ofNat 32 j.val).toInt < (A.ln (ix1 i)).toInt ↔ A.live i j := by
    rw [BitVec.toInt_ofNat', Arrays.live, Int.bmod_eq_of_le (by omega) (by omega)]
  have hpage (hl : A.live i j) : A.bt (ix2 i j) = BitVec.ofNat 32 p.val + BitVec.ofNat 32 (128 * (half c).val)
      ↔ A.page i j = halfPage (half c) p := by
    have hv := S.page_val hl
    have hx := (half c).isLt
    rw [← BitVec.ofNat_add, ← BitVec.toInt_inj, ← hv, BitVec.toInt_ofNat', Int.bmod_eq_of_le (by omega) (by omega), Fin.ext_iff]
    simp only [halfPage]
    omega
  refine if_congr ?_ rfl rfl
  rw [beq_iff_eq, decide_eq_true_iff, hlive]
  constructor
  · rintro ⟨h1, h2⟩; exact ⟨h2, (hpage h2).1 h1⟩
  · rintro ⟨h1, h2⟩; exact ⟨(hpage h1).2 h2, h1⟩

/-- A listed page's keys score as the row does. -/
theorem masked_listed (i h : Fin 16) (d : Fin 64) (t : Fin 2048) (hp : 0 < (A.row i h d).hits (halfPage (half c) (keyPage t))) :
    k0_pay5 (counts c B) (qRow B.q h) (kRow B.k h) (ix2 i t)
      = (A.score i h (halfPage (half c) (keyPage t)) (keyPlace t) : EReal) := by
  rw [masked_apply, counts_eq S RB i _ h d, if_pos (by exact_mod_cast hp), eighth_bits, ← S.score_eq]
  simp only [qRow_at, kRow_at, RB.q, RB.k]

/-- An unlisted page's keys all score the same low number. -/
theorem masked_unlisted (i h : Fin 16) (d : Fin 64) (t : Fin 2048)
    (hp : ¬ 0 < (A.row i h d).hits (halfPage (half c) (keyPage t))) :
    k0_pay5 (counts c B) (qRow B.q h) (kRow B.k h) (ix2 i t) = Ideal.ofBits .f32 0xF149F2CA#32 := by
  rw [masked_apply, counts_eq S RB i _ h d, if_neg (by exact_mod_cast hp)]

/-- The row maximum is a real number. -/
theorem headMax_real (i h : Fin 16) : ∃ M : ℝ, headMax c B h (ix2 i 0) = (M : EReal) := by
  have hr : ∀ t, ∃ r : ℝ, k0_pay5 (counts c B) (qRow B.q h) (kRow B.k h) (ix2 i t) = (r : EReal) := fun t => by
    by_cases hp : 0 < (A.row i h 0).hits (halfPage (half c) (keyPage t))
    · exact ⟨_, masked_listed S RB i h 0 t hp⟩
    · rw [masked_unlisted S RB i h 0 t hp]; exact low_bits
  unfold headMax
  rw [top_apply, least_bits]
  refine fold_max_real _ _ (fun t _ => ?_) ⟨0, Finset.mem_univ _, ?_⟩
  · obtain ⟨r, e⟩ := hr t; rw [e]; exact EReal.coe_ne_top _
  · obtain ⟨r, e⟩ := hr 0; rw [e]; exact EReal.coe_ne_bot _

/-- The weight of a key under the row maximum. -/
theorem weighed_eq (i h : Fin 16) (d : Fin 64) {M : ℝ} (hM : headMax c B h (ix2 i 0) = (M : EReal)) (t : Fin 2048) :
    k0_pay7 (counts c B) (qRow B.q h) (kRow B.k h) (ix2 i t)
      = ((Real.exp ((A.row i h d).score (halfPage (half c) (keyPage t)) (keyPlace t) - M)
          * (A.row i h d).hits (halfPage (half c) (keyPage t)) : ℝ) : EReal) := by
  unfold headMax at hM
  rw [weighed_apply, hM, counts_eq S RB i _ h d, EReal.coe_mul]
  by_cases hp : 0 < (A.row i h d).hits (halfPage (half c) (keyPage t))
  · rw [masked_listed S RB i h d t hp, ← EReal.coe_sub, Ideal.exp_coe]
    rfl
  · rw [le_antisymm (not_lt.1 hp) ((A.row i h d).hits_nonneg _), EReal.coe_zero, mul_zero, mul_zero]

/-- The row sum is the half's. -/
theorem headSum_eq (i h : Fin 16) (d : Fin 64) {M : ℝ} (hM : headMax c B h (ix2 i 0) = (M : EReal)) :
    headSum c B h (ix2 i 0) = ((A.row i h d).halfSum (half c) M : EReal) := by
  unfold headSum
  rw [summed_apply, Row.halfSum, ← sum_keys, coe_sum]
  exact Finset.sum_congr rfl fun t _ => weighed_eq S RB i h d hM t

/-- The unnormalised output is the half's. -/
theorem headOut_eq (i h : Fin 16) (d : Fin 64) {M : ℝ} (hM : headMax c B h (ix2 i 0) = (M : EReal)) :
    headOut c B h (ix3 0 i d) = (A.row i h d).halfOut (half c) M := by
  unfold headOut
  rw [output_apply, Row.halfOut, ← sum_keys]
  refine Finset.sum_congr rfl fun t _ => ?_
  rw [weighed_eq S RB i h d hM, vRow_at, RB.v]
  rfl

omit S RB

/-- THE MERGE: two devices that hold different halves attend, together, the whole row. -/
theorem merged_eq (S : A.Sound) {c c' : Dev nD} (hc : half c' ≠ half c) {B B' : Blocks Ideal} (RB : Reads A (half c) B)
    (RB' : Reads A (half c') B') (i h : Fin 16) (d : Fin 64) :
    merged (outs c B) (stats c B) (outs c' B') (stats c' B') (ix3 h i d) = (A.row i h d).attended := by
  obtain ⟨m, hm⟩ := headMax_real S RB i h
  obtain ⟨n, hn⟩ := headMax_real S RB' i h
  have hmax : max (m : EReal) (n : EReal) = ((max m n : ℝ) : EReal) := (EReal.coe_strictMono.monotone.map_max).symm
  have hpos : (A.row i h d).total / Real.exp (max m n) ≠ 0 :=
    (div_pos ((A.row i h d).total_pos (S.some_live i h d)) (Real.exp_pos _)).ne'
  rw [merged_apply]
  simp only [mlRow_at]
  rw [show stats c B (ix3 0 i h) = (m : EReal) from hm, show stats c' B' (ix3 0 i h) = (n : EReal) from hn,
    show stats c B (ix3 1 i h) = ((A.row i h d).halfSum (half c) m : EReal) from headSum_eq S RB i h d hm,
    show stats c' B' (ix3 1 i h) = ((A.row i h d).halfSum (half c') n : EReal) from headSum_eq S RB' i h d hn,
    show outs c B (ix3 h i d) = (A.row i h d).halfOut (half c) m from headOut_eq S RB i h d hm,
    show outs c' B' (ix3 h i d) = (A.row i h d).halfOut (half c') n from headOut_eq S RB' i h d hn,
    hmax, ← EReal.coe_sub, ← EReal.coe_sub, Ideal.exp_coe, Ideal.exp_coe, ← EReal.coe_mul, ← EReal.coe_mul, ← EReal.coe_add,
    (A.row i h d).merged_sum hc, Ideal.div_coe hpos, Ideal.div_coe hpos, ← EReal.coe_mul, ← EReal.coe_mul, mul_one_div,
    mul_one_div]
  exact (A.row i h d).merged_out hc m n (max m n)

end Cert.KernelIdeal.Paged

end
-- ==== Proof.Reading.lean ====
/-
  The blocks a device reads, and the result it leaves, at an index, in terms of its arguments.
-/
module

public import proofs.«01_k».proof.Proof.HeadValue
public import proofs.«01_k».proof.Proof.Launch
public import Idealize.ShloMosaic.Lib.Claim
public import Idealize.ShloMosaic.Lib.Pipeline.ValueKit.Point

@[expose] public section

set_option maxRecDepth 16384

noncomputable section

namespace Cert.KernelIdeal.Paged

open Idealize.ShloMosaic Idealize.ShloMosaic.TcCoe
open Cert.KernelIdeal.Gen Cert.Attention

/-! ## The layout of the operands -/

/-- The queries laid out by head. -/
def queriesByHead (x : FVec Ideal S16x1x16x64 .f32) : FVec Ideal S16x16x64 .bf16 :=
  truncf .bf16 (transpose S16x16x64 [1, 0, 2] (shapeCast S16x16x64 x shapeCasts_S16x1x16x64_S16x16x64)
    transposes_S16x16x64_S16x16x64_1_0_2) bitsLt_bf16_f32

/-- Keys, or values, laid out by head. -/
def pagesByHead (x : FVec Ideal S128x16x16x64 .f32) : FVec Ideal S16x2048x64 .bf16 :=
  truncf .bf16 (transpose S16x2048x64 [1, 0, 2] (shapeCast S2048x16x64 x shapeCasts_S128x16x16x64_S2048x16x64)
    transposes_S2048x16x64_S16x2048x64_1_0_2) bitsLt_bf16_f32

/-- The lengths as a column. -/
def lengthColumn (x : IVec S16 32) : IVec S16x1 32 := shapeCast S16x1 x shapeCasts_S16_S16x1

/-- The result laid out by sequence. -/
def bySequence (x : FVec Ideal S16x16x64 .f32) : FVec Ideal S16x1x16x64 .f32 :=
  shapeCast S16x1x16x64 (transpose S16x16x64 [1, 0, 2] x transposes_S16x16x64_S16x16x64_1_0_2)
    shapeCasts_S16x16x64_S16x1x16x64

theorem queriesByHead_apply (x : FVec Ideal S16x1x16x64 .f32) (h i : Fin 16) (e : Fin 64) :
    queriesByHead x (ix3 h i e) = x (ix4 i 0 h e) := by
  pointwise [queriesByHead]

theorem pagesByHead_apply (x : FVec Ideal S128x16x16x64 .f32) (h : Fin 16) (t : Fin 2048) (e : Fin 64) :
    pagesByHead x (ix3 h t e) = x (ix4 (keyPage t) (keyPlace t) h e) := by
  pointwise [pagesByHead]

theorem lengthColumn_apply (x : IVec S16 32) (i : Fin 16) : lengthColumn x (ix2 i 0) = x (ix1 i) := by
  pointwise [lengthColumn]

theorem bySequence_apply (x : FVec Ideal S16x16x64 .f32) (i : Fin 16) (z : Fin 1) (h : Fin 16) (d : Fin 64) :
    bySequence x (ix4 i z h d) = x (ix3 h i d) := by
  pointwise [bySequence]

/-! ## The arrays the call is entered with -/

variable (m : (ℓ : Loc nD τ sig) → Buf (Elt Ideal) ℓ) (c : Dev nD)

theorem entry_q : V m c main_v3 = queriesByHead (m ((c.tc : Thread nD τ).loc main_arg0)) := by
  unfold queriesByHead
  unfold_abbrev_sides
  after_results
  rfl
theorem entry_k : V m c main_v6 = pagesByHead (m ((c.tc : Thread nD τ).loc main_arg1)) := by
  unfold pagesByHead
  unfold_abbrev_sides
  after_results
  rfl
theorem entry_v : V m c main_v9 = pagesByHead (m ((c.tc : Thread nD τ).loc main_arg2)) := by
  unfold pagesByHead
  unfold_abbrev_sides
  after_results
  rfl
theorem entry_ln : V m c main_v10 = lengthColumn (m ((c.tc : Thread nD τ).loc main_arg4)) := by
  entry_read
  rfl

/-! ## Each window's one block is its whole array -/

theorem emb_q (x : S16x16x64.Idx) : (win0_0.blk t0_0).view.emb x = x := by
  have hi : win0_0.index t0_0 = ![0, 0, 0] := by decide
  blk_ext [hi]
theorem emb_k (x : S16x2048x64.Idx) : (win0_1.blk t0_0).view.emb x = x := by
  have hi : win0_1.index t0_0 = ![0, 0, 0] := by decide
  blk_ext [hi]
theorem emb_v (x : S16x2048x64.Idx) : (win0_2.blk t0_0).view.emb x = x := by
  have hi : win0_2.index t0_0 = ![0, 0, 0] := by decide
  blk_ext [hi]
theorem emb_bt (x : S16x128.Idx) : (win0_3.blk t0_0).view.emb x = x := by
  have hi : win0_3.index t0_0 = ![0, 0] := by decide
  blk_ext [hi]
theorem emb_ln (x : S16x1.Idx) : (win0_4.blk t0_0).view.emb x = x := by
  have hi : win0_4.index t0_0 = ![0, 0] := by decide
  blk_ext [hi]

/-! ## The blocks and the result at an index -/

theorem blocks_q (h i : Fin 16) (e : Fin 64) :
    (blocks m c).q (ix3 h i e) = m ((c.tc : Thread nD τ).loc main_arg0) (ix4 i 0 h e) := by
  show V m c main_v3 ((win0_0.blk t0_0).view.emb (ix3 h i e)) = _
  rw [emb_q, entry_q]
  exact queriesByHead_apply _ h i e
theorem blocks_k (h : Fin 16) (t : Fin 2048) (e : Fin 64) :
    (blocks m c).k (ix3 h t e) = m ((c.tc : Thread nD τ).loc main_arg1) (ix4 (keyPage t) (keyPlace t) h e) := by
  show V m c main_v6 ((win0_1.blk t0_0).view.emb (ix3 h t e)) = _
  rw [emb_k, entry_k]
  exact pagesByHead_apply _ h t e
theorem blocks_v (h : Fin 16) (t : Fin 2048) (e : Fin 64) :
    (blocks m c).v (ix3 h t e) = m ((c.tc : Thread nD τ).loc main_arg2) (ix4 (keyPage t) (keyPlace t) h e) := by
  show V m c main_v9 ((win0_2.blk t0_0).view.emb (ix3 h t e)) = _
  rw [emb_v, entry_v]
  exact pagesByHead_apply _ h t e
theorem blocks_bt : (blocks m c).bt = m ((c.tc : Thread nD τ).loc main_arg3) := by
  funext x
  show V m c main_arg3 ((win0_3.blk t0_0).view.emb x) = _
  rw [emb_bt, V_main_arg3]
theorem blocks_ln (i : Fin 16) : (blocks m c).ln (ix2 i 0) = m ((c.tc : Thread nD τ).loc main_arg4) (ix1 i) := by
  show V m c main_v10 ((win0_4.blk t0_0).view.emb (ix2 i 0)) = _
  rw [emb_ln, entry_ln]
  exact lengthColumn_apply _ i

/-- The program's result is the merge, laid out by sequence. -/
theorem left_eq : V2 m c (Proc.devRef .tc main_v13) = bySequence (result m c) := by
  rw [← V1_out m c]
  unfold V2
  after_results
  rfl

end Cert.KernelIdeal.Paged

end
-- ==== Proof.RefValue.lean ====
/-
  The reference's result, piece by piece, as closed functions of its five whole arrays, and what each entry of it is: what
  its row attends.
-/
module

public import proofs.«01_k».proof.Proof.Gen.ReferenceIdeal.Run
public import Idealize.ShloMosaic.Lib.Pointwise
public import proofs.«01_k».proof.Proof.Rows

@[expose] public section

set_option maxRecDepth 16384

noncomputable section

namespace Cert.ReferenceIdeal.Paged

open Idealize.ShloMosaic Idealize.ShloMosaic.TcCoe Idealize.SL.Sem Idealize.ShloMosaic.StableHlo
open Cert.ReferenceIdeal Cert.ReferenceIdeal.Gen Cert.Attention

variable {F : FTy → Type} [FloatOps F]

/-- The table with negative entries counted from the end, as start indices. -/
def starts (bt : IVec S16x128 32) : IVec S16x128x1 32 :=
  broadcastInDim S16x128x1 ![0, 1] bcast_S16x128_S16x128x1_0_1
    (select (cmpi .slt bt (broadcastInDim S16x128 ![] bcast_S_S16x128 (constantI S_ 32 0#32)))
      (addi bt (broadcastInDim S16x128 ![] bcast_S_S16x128 (constantI S_ 32 256#32))) bt)

/-- The rows of an array that the table names, one after another. -/
def rows (x : FVec F S256x16x16x64 .f32) (bt : IVec S16x128 32) : FVec F S16x2048x16x64 .f32 :=
  shapeCast _ (Host.gather gather_S256x16x16x64_S16x128x1_S16x128x16x16x64_234_0_n_n_0_2_1161664 x (starts bt))
    shapeCasts_S16x128x16x16x64_S16x2048x16x64

/-- Which keys are live. -/
def liveKeys (ln : IVec S16 32) : IVec S16x16x1x2048 1 :=
  broadcastInDim S16x16x1x2048 ![0, 1, 2, 3] bcast_S16x1x1x2048_S16x16x1x2048_0_1_2_3
    (broadcastInDim S16x1x1x2048 ![0, 3] bcast_S16x2048_S16x1x1x2048_0_3
      (shapeCast _ (broadcastInDim S16x128x16 ![0, 1] bcast_S16x128_S16x128x16_0_1
        (cmpi .slt
          (broadcastInDim S16x128 ![0, 1] bcast_S1x128_S16x128_0_1
            (broadcastInDim S1x128 ![1] bcast_S128_S1x128_1 (iotaInDim S128 32 0)))
          (broadcastInDim S16x128 ![0, 1] bcast_S16x1_S16x128_0_1 (broadcastInDim S16x1 ![0] bcast_S16_S16x1_0 ln))))
        shapeCasts_S16x128x16_S16x2048))

/-- The scores, minus infinity on dead keys. -/
def scores (q : FVec F S16x1x16x64 .f32) (k : FVec F S256x16x16x64 .f32) (bt : IVec S16x128 32) (ln : IVec S16 32) :
    FVec F S16x16x1x2048 .f32 :=
  select (liveKeys ln)
    (mulf (Host.dotGeneral dot_S16x1x16x64_S16x2048x16x64_S16x16x1x2048_3_3_1_1_02_02 none q (rows k bt))
      (broadcastInDim S16x16x1x2048 ![] bcast_S_S16x16x1x2048 (constant S_ .f32 0x3E000000#32)))
    (broadcastInDim S16x16x1x2048 ![] bcast_S_S16x16x1x2048 (id (constant S_ .f32 0xFF800000#32)))

/-- Each row's largest score. -/
def largest (q : FVec F S16x1x16x64 .f32) (k : FVec F S256x16x16x64 .f32) (bt : IVec S16x128 32) (ln : IVec S16 32) :
    FVec F S16x16x1 .f32 :=
  Host.reduce FloatOps.maximumf (scores q k bt ln) (constant S_ .f32 0xFF800000#32) reducesTo_S16x16x1x2048_S16x16x1_d3 h_S_

/-- The exponentials of the scores less the largest. -/
def weights (q : FVec F S16x1x16x64 .f32) (k : FVec F S256x16x16x64 .f32) (bt : IVec S16x128 32) (ln : IVec S16 32) :
    FVec F S16x16x1x2048 .f32 :=
  Host.exp (subf (scores q k bt ln)
    (broadcastInDim S16x16x1x2048 ![0, 1, 2, 3] bcast_S16x16x1x1_S16x16x1x2048_0_1_2_3
      (broadcastInDim S16x16x1x1 ![0, 1, 2] bcast_S16x16x1_S16x16x1x1_0_1_2 (largest q k bt ln))))

/-- The exponentials divided by their row's sum. -/
def shares (q : FVec F S16x1x16x64 .f32) (k : FVec F S256x16x16x64 .f32) (bt : IVec S16x128 32) (ln : IVec S16 32) :
    FVec F S16x16x1x2048 .f32 :=
  Host.divf (weights q k bt ln)
    (broadcastInDim S16x16x1x2048 ![0, 1, 2, 3] bcast_S16x16x1x1_S16x16x1x2048_0_1_2_3
      (broadcastInDim S16x16x1x1 ![0, 1, 2] bcast_S16x16x1_S16x16x1x1_0_1_2
        (Host.reduceAdd (weights q k bt ln) (constant S_ .f32 0x00000000#32) reducesTo_S16x16x1x2048_S16x16x1_d3 h_S_)))

/-- The reference's result. -/
def attention (q : FVec F S16x1x16x64 .f32) (k v : FVec F S256x16x16x64 .f32) (bt : IVec S16x128 32) (ln : IVec S16 32) :
    FVec F S16x1x16x64 .f32 :=
  transpose S16x1x16x64 [0, 3, 1, 2]
    (Host.dotGeneral dot_S16x2048x16x64_S16x16x1x2048_S16x16x64x1_1_3_3_2_02_01 none (rows v bt) (shares q k bt ln))
    transposes_S16x16x64x1_S16x1x16x64_0_3_1_2

/-- The generated term is that. -/
theorem res_eq (m : (ℓ : Loc nD τ sig) → Buf (Elt F) ℓ) (c : Dev nD) :
    Value.res_out0 m c = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v39
  rfl

/-! ## The pieces at an index -/

/-- The dimension numbers of the reference's lookup. -/
abbrev lookup : GatherDims S256x16x16x64 S16x128x1 S16x128x16x16x64 :=
  gather_S256x16x16x64_S16x128x1_S16x128x16x16x64_234_0_n_n_0_2_1161664

/-- Along the axes of a page the lookup reads the result's own coordinate. -/
theorem lookup_inside (idx : IVec S16x128x1 32) (y : S16x128x16x16x64.Idx) (a : Fin 4) (ha : a ≠ 0) (n : Nat)
    (hn : ∀ h : a ∈ lookup.sKept,
      (y (lookup.offsetDims[lookup.sKept.idxOf a]'(by rw [lookup.offset_length]; exact List.idxOf_lt_length_iff.2 h))).val = n) :
    lookup.start y idx a + lookup.offCoord y a = n := by
  have hs : a ∉ lookup.startIndexMap := fun h => ha (List.mem_singleton.1 h)
  have hk : a ∈ lookup.sKept := (GatherDims.mem_sKept _ _).2 ⟨fun h => ha (List.mem_singleton.1 h), List.not_mem_nil⟩
  unfold GatherDims.start GatherDims.offCoord
  rw [dif_neg hs, dif_pos hk, Nat.zero_add]
  exact hn hk

/-- Slices of whole pages, one page per start index: the page read signed and brought into range. -/
theorem gather_pages (x : FVec F S256x16x16x64 .f32) (idx : IVec S16x128x1 32) (i : Fin 16) (j : Fin 128) (s h : Fin 16)
    (d : Fin 64) :
    Host.gather lookup x idx (ix5 i j s h d) = x (ix4 ⟨min (idx (ix3 i j 0)).toInt.toNat 255, by omega⟩ s h d) := by
  unfold Host.gather
  congr 1
  funext a
  refine Fin.ext ?_
  show lookup.start _ _ a + lookup.batchCoord _ a + lookup.offCoord _ a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)),
      Nat.add_zero]
    have hm : (0 : Fin 4) ∈ lookup.startIndexMap := List.mem_singleton.mpr rfl
    show lookup.start (ix5 i j s h d) idx (0 : Fin 4) = _
    unfold GatherDims.start
    rw [dif_pos hm]
    have hsi : lookup.siIdx (ix5 i j s h d) ⟨lookup.startIndexMap.idxOf (0 : Fin 4), List.idxOf_lt_length_iff.2 hm⟩
        = ix3 i j 0 := by
      funext b; refine Fin.ext ?_
      match b with
      | ⟨0, _⟩ => rfl
      | ⟨1, _⟩ => rfl
      | ⟨2, _⟩ => rfl
    rw [hsi]
    rfl
  | ⟨1, _⟩ => exact lookup_inside idx _ 1 (by decide) _ fun _ => rfl
  | ⟨2, _⟩ => exact lookup_inside idx _ 2 (by decide) _ fun _ => rfl
  | ⟨3, _⟩ => exact lookup_inside idx _ 3 (by decide) _ fun _ => rfl

theorem starts_apply (bt : IVec S16x128 32) (i : Fin 16) (j : Fin 128) (z : Fin 1) :
    starts bt (ix3 i j z) = Scalar.select (IntOp.cmpi .slt (bt (ix2 i j)) 0#32) (IntOp.addi (bt (ix2 i j)) 256#32)
      (bt (ix2 i j)) := by
  pointwise [starts]

theorem rows_apply (x : FVec Ideal S256x16x16x64 .f32) (bt : IVec S16x128 32) (i : Fin 16) (t : Fin 2048) (h : Fin 16)
    (d : Fin 64) :
    rows x bt (ix4 i t h d)
      = x (ix4 ⟨min (starts bt (ix3 i (keyPage t) 0)).toInt.toNat 255, by omega⟩ (keyPlace t) h d) := by
  refine Eq.trans ?_ (gather_pages x (starts bt) i (keyPage t) (keyPlace t) h d)
  pointwise [rows]

theorem liveKeys_apply (ln : IVec S16 32) (i : Fin 16) (t : Fin 2048) (h : Fin 16) (z : Fin 1) :
    liveKeys ln (ix4 i h z t) = IntOp.cmpi .slt (BitVec.ofNat 32 (keyPage t).val) (ln (ix1 i)) := by
  pointwise [liveKeys]

section Reads
variable (q : FVec Ideal S16x1x16x64 .f32) (k v : FVec Ideal S256x16x16x64 .f32) (bt : IVec S16x128 32) (ln : IVec S16 32)

theorem scores_apply (i : Fin 16) (t : Fin 2048) (h : Fin 16) (z : Fin 1) :
    scores q k bt ln (ix4 i h z t) = Scalar.select (liveKeys ln (ix4 i h z t))
      ((∑ x : Fin 64, q (ix4 i z h x) * rows k bt (ix4 i t h x)) * Ideal.ofBits .f32 0x3E000000#32)
      (Ideal.ofBits .f32 0xFF800000#32) := by
  pointwise [scores]
  rfl

theorem largest_apply (i : Fin 16) (h : Fin 16) (z : Fin 1) :
    largest q k bt ln (ix3 i h z) = Finset.fold max (Ideal.ofBits .f32 0xFF800000#32)
      (fun t : Fin 2048 => scores q k bt ln (ix4 i h 0 t)) Finset.univ := by
  pointwise [largest]

theorem weights_apply (i : Fin 16) (t : Fin 2048) (h : Fin 16) (z : Fin 1) :
    weights q k bt ln (ix4 i h z t)
      = Ideal.exp (scores q k bt ln (ix4 i h z t) - largest q k bt ln (ix3 i h 0)) := by
  pointwise [weights]

theorem shares_apply (i : Fin 16) (t : Fin 2048) (h : Fin 16) (z : Fin 1) :
    shares q k bt ln (ix4 i h z t)
      = Ideal.div (weights q k bt ln (ix4 i h z t)) (∑ t : Fin 2048, weights q k bt ln (ix4 i h 0 t)) := by
  pointwise [shares]

theorem attention_apply (i : Fin 16) (h : Fin 16) (z : Fin 1) (d : Fin 64) :
    attention q k v bt ln (ix4 i z h d)
      = ∑ t : Fin 2048, rows v bt (ix4 i t h d) * shares q k bt ln (ix4 i h 0 t) := by
  pointwise [attention]

end Reads

/-! ## The pieces of sound arrays -/

variable {A : Arrays} (S : A.Sound)
include S

omit S in
/-- A key is live where its slot is. -/
theorem liveKeys_eq (i : Fin 16) (t : Fin 2048) (h : Fin 16) (z : Fin 1) :
    liveKeys A.ln (ix4 i h z t) = 1#1 ↔ A.live i (keyPage t) := by
  rw [liveKeys_apply, IntOp.cmpi_slt, Arrays.live, BitVec.toInt_ofNat']
  have : (keyPage t).val < 128 := (keyPage t).isLt
  rw [Int.bmod_eq_of_le (by omega) (by omega)]

/-- A live key's row is its place in the page its slot names. -/
theorem rows_live (x : FVec Ideal S256x16x16x64 .f32) (i : Fin 16) (t : Fin 2048) (h : Fin 16) (d : Fin 64)
    (hl : A.live i (keyPage t)) : rows x A.bt (ix4 i t h d) = x (ix4 (A.page i (keyPage t)) (keyPlace t) h d) := by
  have hs : starts A.bt (ix3 i (keyPage t) 0) = A.bt (ix2 i (keyPage t)) := by
    rw [starts_apply, ValueIdx.eq_zero_of_ne_one (b := IntOp.cmpi .slt _ _), ValueIdx.select_zero]
    rw [IntOp.cmpi_slt]
    have := (S.table i _ hl).1
    simpa using this
  rw [rows_apply]
  simp only [hs]
  rfl

theorem scores_live (i : Fin 16) (t : Fin 2048) (h : Fin 16) (hl : A.live i (keyPage t)) :
    scores (F := Ideal) A.q A.k A.bt A.ln (ix4 i h 0 t) = (A.score i h (A.page i (keyPage t)) (keyPlace t) : EReal) := by
  rw [scores_apply, (liveKeys_eq i t h 0).2 hl, ValueIdx.select_one, eighth_bits, ← S.score_eq]
  simp only [rows_live S _ _ _ _ _ hl]

omit S in
theorem scores_dead (i : Fin 16) (t : Fin 2048) (h : Fin 16) (hl : ¬ A.live i (keyPage t)) :
    scores (F := Ideal) A.q A.k A.bt A.ln (ix4 i h 0 t) = ⊥ := by
  rw [scores_apply, ValueIdx.eq_zero_of_ne_one (fun e => hl ((liveKeys_eq i t h 0).1 e)), ValueIdx.select_zero, least_bits]

/-- The largest score of a row is a real number. -/
theorem largest_real (i h : Fin 16) : ∃ M : ℝ, largest (F := Ideal) A.q A.k A.bt A.ln (ix3 i h 0) = (M : EReal) := by
  rw [largest_apply, least_bits]
  refine fold_max_real _ _ (fun t _ => ?_) ⟨0, Finset.mem_univ _, ?_⟩
  · by_cases hl : A.live i (keyPage t)
    · rw [scores_live S _ _ _ hl]; exact EReal.coe_ne_top _
    · rw [scores_dead _ _ _ hl]; exact bot_ne_top
  · rw [scores_live S]
    · exact EReal.coe_ne_bot _
    · exact lt_of_lt_of_le (by norm_num) (S.length i)

open Classical in
/-- The weights of a row, at whatever real number is its largest score. -/
theorem weights_eq (i h : Fin 16) {M : ℝ} (hM : largest (F := Ideal) A.q A.k A.bt A.ln (ix3 i h 0) = (M : EReal)) (t : Fin 2048) :
    weights (F := Ideal) A.q A.k A.bt A.ln (ix4 i h 0 t)
      = ((if A.live i (keyPage t) then Real.exp (A.score i h (A.page i (keyPage t)) (keyPlace t) - M) else 0 : ℝ) : EReal) := by
  rw [weights_apply, hM]
  by_cases hl : A.live i (keyPage t)
  · rw [scores_live S _ _ _ hl, if_pos hl, ← EReal.coe_sub, Ideal.exp_coe]
  · rw [scores_dead _ _ _ hl, if_neg hl, EReal.bot_sub, Ideal.exp_bot, EReal.coe_zero]

/-- THE REFERENCE'S RESULT: each entry is what its row attends. -/
theorem attention_eq (i : Fin 16) (z : Fin 1) (h : Fin 16) (d : Fin 64) :
    attention (F := Ideal) A.q A.k A.v A.bt A.ln (ix4 i z h d) = (A.row i h d).attended := by
  classical
  obtain ⟨M, hM⟩ := largest_real S i h
  have hpos : (A.row i h d).total / Real.exp M ≠ 0 :=
    (div_pos ((A.row i h d).total_pos (S.some_live i h d)) (Real.exp_pos M)).ne'
  have hsum : ∑ t : Fin 2048, weights (F := Ideal) A.q A.k A.bt A.ln (ix4 i h 0 t) = (((A.row i h d).total / Real.exp M : ℝ) : EReal) := by
    rw [← Row.slots_sum, ← sum_keys, coe_sum]
    exact Finset.sum_congr rfl fun t _ => weights_eq S i h hM t
  rw [attention_apply]
  simp only [shares_apply, hsum]
  rw [← Row.by_slots (A.row i h d) M (fun j s => rows (F := Ideal) A.v A.bt (ix4 i ⟨j.val * 16 + s.val, by omega⟩ h d)), ← sum_keys]
  · refine Finset.sum_congr rfl fun t _ => ?_
    rw [weights_eq S i h hM, Ideal.div_coe hpos, ← EReal.coe_mul, mul_comm, mul_one_div]
    have ht : (⟨(keyPage t).val * 16 + (keyPlace t).val, by omega⟩ : Fin 2048) = t :=
      Fin.ext (by simp only [keyPage, keyPlace]; omega)
    rw [ht]
    rfl
  · intro j s hl
    have hp : keyPage ⟨j.val * 16 + s.val, by omega⟩ = j := Fin.ext (by simp only [keyPage]; omega)
    have hs : keyPlace ⟨j.val * 16 + s.val, by omega⟩ = s := Fin.ext (by simp only [keyPlace]; omega)
    rw [rows_live S _ _ _ _ _ (by rw [hp]; exact hl), hp, hs]
    rfl

end Cert.ReferenceIdeal.Paged

end
-- ==== Proof.Sound.lean ====
/-
  What the precondition says of the arrays: the queries and the keys are real numbers, every sequence has a live slot,
  and live slots name pages that exist.
-/
module

public import proofs.«01_k».proof.Defs
public import proofs.«01_k».proof.Proof.Rows
public import Idealize.ShloMosaic.Lib.WordCmp

@[expose] public section

set_option maxRecDepth 16384

noncomputable section

namespace Cert.Pre_attendable_KernelIdeal

open Idealize.ShloMosaic Idealize.ShloMosaic.TcCoe Idealize.ShloMosaic.StableHlo
open Cert.Attention Idealize.ShloMosaic.WordCmp

variable [Facts]
variable (q : FVec Ideal S16x1x16x64 .f32) (k v : FVec Ideal S128x16x16x64 .f32) (bt : IVec S16x128 32) (ln : IVec S16 32)

omit [Facts] in
/-- Infinity, as the precondition spells it. -/
theorem top_bits : Ideal.ofBits .f32 0x7F800000#32 = ⊤ := by
  simp [Ideal.ofBits, Ideal.ieee]

omit [Facts] in
/-- What lies below infinity in absolute value is a real number. -/
theorem real_of_bit (x : Ideal .f32)
    (h : BitVec.ofBool (decide (FloatOps.absf x < Ideal.ofBits .f32 0x7F800000#32)) = 1#1) : x = ((EReal.toReal x : ℝ) : EReal) := by
  rw [ofBool_decide_eq_one_iff, top_bits] at h
  have h' : max (x : EReal) (-x) < ⊤ := h
  obtain ⟨h1, h2⟩ := max_lt_iff.1 h'
  refine (EReal.coe_toReal h1.ne fun e => ?_).symm
  rw [e, EReal.neg_bot] at h2
  exact lt_irrefl _ h2

omit [Facts] in
/-- "Not the first, or both of the others", as bits. -/
theorem both_of_bit (a b c : Bool)
    (h : IntOp.ori (~~~BitVec.ofBool a) (IntOp.andi (BitVec.ofBool b) (BitVec.ofBool c)) = 1#1) (ha : a = true) :
    b = true ∧ c = true := by
  revert h ha; revert a b c; decide

theorem q_real (h : (fn (F := Ideal) q k v bt ln).1 = fun _ => 1#1) (x : S16x1x16x64.Idx) :
    q x = ((EReal.toReal (q x) : ℝ) : EReal) := by
  refine real_of_bit (q x) (Eq.trans ?_ (congrFun h x))
  symm
  show cmpf .olt (Host.absf q) (broadcastInDim S16x1x16x64 ![] Facts.bcast_S_S16x1x16x64 (constant S_ .f32 0x7F800000#32)) x = _
  pointwise []

theorem k_real (h : (fn (F := Ideal) q k v bt ln).2.1 = fun _ => 1#1) (x : S128x16x16x64.Idx) :
    k x = ((EReal.toReal (k x) : ℝ) : EReal) := by
  refine real_of_bit (k x) (Eq.trans ?_ (congrFun h x))
  symm
  show cmpf .olt (Host.absf k) (broadcastInDim S128x16x16x64 ![] Facts.bcast_S_S128x16x16x64 (constant S_ .f32 0x7F800000#32)) x = _
  pointwise []

theorem ln_pos (h : (fn (F := Ideal) q k v bt ln).2.2.1 = fun _ => 1#1) (i : Fin 16) : 1 ≤ (ln (ix1 i)).toInt := by
  have e : IntOp.cmpi .sge (ln (ix1 i)) 1#32 = 1#1 := by
    refine Eq.trans ?_ (congrFun h (ix1 i))
    symm
    show cmpi .sge ln (broadcastInDim S16 ![] Facts.bcast_S_S16 (constantI S_ 32 1#32)) (ix1 i) = _
    pointwise []
  rw [cmpi_sge_eq, ofBool_decide_eq_one_iff] at e
  exact e

theorem bt_lt (h : (fn (F := Ideal) q k v bt ln).2.2.2 = fun _ => 1#1) (i : Fin 16) (j : Fin 128)
    (hl : (j.val : Int) < (ln (ix1 i)).toInt) : 0 ≤ (bt (ix2 i j)).toInt ∧ (bt (ix2 i j)).toInt < 256 := by
  have e : IntOp.ori (~~~IntOp.cmpi .slt (BitVec.ofNat 32 j.val) (ln (ix1 i)))
      (IntOp.andi (IntOp.cmpi .sge (bt (ix2 i j)) 0#32) (IntOp.cmpi .slt (bt (ix2 i j)) 256#32)) = 1#1 := by
    refine Eq.trans ?_ (congrFun h (ix2 i j))
    symm
    unfold fn fn_part1
    dsimp only
    pointwise []
  have hb := both_of_bit (decide ((BitVec.ofNat 32 j.val).toInt < (ln (ix1 i)).toInt)) (decide ((0#32 : BitVec 32).toInt ≤ (bt (ix2 i j)).toInt))
    (decide ((bt (ix2 i j)).toInt < (256#32 : BitVec 32).toInt)) e (by
      rw [decide_eq_true_iff, BitVec.toInt_ofNat', Int.bmod_eq_of_le (by omega) (by omega)]
      exact hl)
  rw [decide_eq_true_iff, decide_eq_true_iff] at hb
  exact hb

end Cert.Pre_attendable_KernelIdeal

end
-- ==== Proof.Value.lean ====
/-
  The kernel's result on every device is the reference's.
-/
module

public import proofs.«01_k».proof.Proof.Reading
public import proofs.«01_k».proof.Proof.RefValue
public import proofs.«01_k».proof.Proof.Sound

@[expose] public section

set_option maxRecDepth 16384

noncomputable section

namespace Cert.Value

open Idealize.ShloMosaic Idealize.ShloMosaic.TcCoe
open Cert.Attention Cert.KernelIdeal.Paged

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- The reference's arrays. -/
def whole : Arrays where
  q := m' (((0 : Dev ReferenceIdeal.nD).tc : Thread ReferenceIdeal.nD ReferenceIdeal.τ).loc ReferenceIdeal.main_arg0)
  k := m' (((0 : Dev ReferenceIdeal.nD).tc : Thread ReferenceIdeal.nD ReferenceIdeal.τ).loc ReferenceIdeal.main_arg1)
  v := m' (((0 : Dev ReferenceIdeal.nD).tc : Thread ReferenceIdeal.nD ReferenceIdeal.τ).loc ReferenceIdeal.main_arg2)
  bt := m' (((0 : Dev ReferenceIdeal.nD).tc : Thread ReferenceIdeal.nD ReferenceIdeal.τ).loc ReferenceIdeal.main_arg3)
  ln := m' (((0 : Dev ReferenceIdeal.nD).tc : Thread ReferenceIdeal.nD ReferenceIdeal.τ).loc ReferenceIdeal.main_arg4)

/-- The device's part of an array of pages: its half. -/
abbrev part (c : Dev KernelIdeal.nD) (x : (⟨4, ![256, 16, 16, 64]⟩ : Shape).Idx → EReal) :
    (⟨4, ![128, 16, 16, 64]⟩ : Shape).Idx → EReal :=
  Layout.blockN ⟨4, ![128, 16, 16, 64]⟩ ⟨4, ![256, 16, 16, 64]⟩ (Layout.meshBlock [2, 2, 2] ![[0], [], [], []] c) x

/-- Every device holds its part of the reference's arrays. -/
structure Holds : Prop where
  q : ∀ c : Dev KernelIdeal.nD, m ((c.tc : Thread KernelIdeal.nD KernelIdeal.τ).loc KernelIdeal.main_arg0) = (whole m').q
  k : ∀ c : Dev KernelIdeal.nD, m ((c.tc : Thread KernelIdeal.nD KernelIdeal.τ).loc KernelIdeal.main_arg1) = part c (whole m').k
  v : ∀ c : Dev KernelIdeal.nD, m ((c.tc : Thread KernelIdeal.nD KernelIdeal.τ).loc KernelIdeal.main_arg2) = part c (whole m').v
  bt : ∀ c : Dev KernelIdeal.nD, m ((c.tc : Thread KernelIdeal.nD KernelIdeal.τ).loc KernelIdeal.main_arg3) = (whole m').bt
  ln : ∀ c : Dev KernelIdeal.nD, m ((c.tc : Thread KernelIdeal.nD KernelIdeal.τ).loc KernelIdeal.main_arg4) = (whole m').ln

/-- Page `p` of a device's part is page `p` of its half. -/
theorem part_apply (c : Dev KernelIdeal.nD) (x : (⟨4, ![256, 16, 16, 64]⟩ : Shape).Idx → EReal) (p : Fin 128) (s h : Fin 16)
    (e : Fin 64) : part c x (ix4 p s h e) = x (ix4 (halfPage (half c) p) s h e) := by
  refine congrArg x (funext fun a => Fin.ext ?_)
  rw [Layout.TilesN.idx_val]
  have h0 : (Layout.meshBlock [2, 2, 2] (![[0], [], [], []] : Fin 4 → List Nat) c (by decide) 0).val = c.val / 4 % 2 := by
    rw [Layout.meshBlock_val]
    simp [Layout.meshLin, Layout.meshCoord, Layout.cutSize]
  match a with
  | ⟨0, _⟩ =>
    show (Layout.meshBlock [2, 2, 2] (![[0], [], [], []] : Fin 4 → List Nat) c _ 0).val * 128 + p.val = p.val + 128 * (c.val / 4 % 2)
    rw [h0]; omega
  | ⟨1, _⟩ => show 0 * 16 + s.val = s.val; omega
  | ⟨2, _⟩ => show 0 * 16 + h.val = h.val; omega
  | ⟨3, _⟩ => show 0 * 64 + e.val = e.val; omega

/-- Every page is a page of some device's half. -/
theorem page_held (P : Fin 256) : ∃ (c : Dev KernelIdeal.nD) (p : Fin 128), P = halfPage (half c) p := by
  by_cases h : P.val < 128
  · exact ⟨0, ⟨P.val, h⟩, Fin.ext (by simp [halfPage, half])⟩
  · refine ⟨4, ⟨P.val - 128, by omega⟩, Fin.ext ?_⟩
    show P.val = P.val - 128 + 128 * 1
    omega

variable {m m'}

/-- The precondition makes the whole arrays sound. -/
theorem sound [Pre_attendable_KernelIdeal.Facts] (hp : Pre_KernelIdeal_attendable_KernelIdeal m) (H : Holds m m') :
    (whole m').Sound where
  q_real x := by
    rw [← H.q 0]
    exact Pre_attendable_KernelIdeal.q_real _ _ _ _ _ (hp 0).1 x
  k_real x := by
    obtain ⟨P, s, h, e, rfl⟩ : ∃ P s h e, x = ix4 P s h e := ⟨_, _, _, _, eq_ix4 x⟩
    obtain ⟨c, p, rfl⟩ := page_held P
    rw [← part_apply c (whole m').k, ← H.k c]
    exact Pre_attendable_KernelIdeal.k_real _ _ _ _ _ (hp c).2.1 (ix4 p s h e)
  length i := by
    rw [← H.ln 0]
    exact Pre_attendable_KernelIdeal.ln_pos _ _ _ _ _ (hp 0).2.2.1 i
  table i j hl := by
    unfold Arrays.live at hl
    rw [← H.ln 0] at hl
    rw [← H.bt 0]
    exact Pre_attendable_KernelIdeal.bt_lt _ _ _ _ _ (hp 0).2.2.2 i j hl

/-- A device's blocks are those of its half of the whole arrays. -/
theorem reads (H : Holds m m') (c : Dev KernelIdeal.nD) : Reads (whole m') (half c) (blocks m c) where
  q h i e := by rw [blocks_q, H.q]
  k h t e := by rw [blocks_k, H.k]; exact part_apply c _ _ _ _ _
  v h t e := by rw [blocks_v, H.v]; exact part_apply c _ _ _ _ _
  bt := by rw [blocks_bt, H.bt]
  ln i := by rw [blocks_ln, H.ln]

/-- A device's partner holds the other half. -/
theorem half_mate : ∀ c : Dev KernelIdeal.nD, half (mate c) ≠ half c := by decide

/-- THE VALUE: what the kernel leaves on every device is the reference's result. -/
theorem left_eq_attention (S : (whole m').Sound) (H : Holds m m') (c : Dev KernelIdeal.nD) :
    V2 m c (Proc.devRef .tc KernelIdeal.main_v13)
      = ReferenceIdeal.Paged.attention (F := Ideal) (whole m').q (whole m').k (whole m').v (whole m').bt (whole m').ln := by
  rw [left_eq]
  funext x
  obtain ⟨i, z, h, d, rfl⟩ : ∃ i z h d, x = ix4 i z h d := ⟨_, _, _, _, eq_ix4 x⟩
  rw [ReferenceIdeal.Paged.attention_eq S]
  exact (bySequence_apply _ i z h d).trans (merged_eq S (half_mate c) (reads H c) (reads H (mate c)) i h d)

end Cert.Value

end
-- ==== Proof.lean ====
/-
  The proof of `Cert.Claim`: the frames of the kernel and of the reference, the empty rewriting, and the
  equality of the kernel's results with the reference's on every device.

  The kernel is run once, for any float model (`Proof/Launch.lean`), and both its frames are that run with the
  values dropped. The equality reads the run at the extended reals (`Proof/Value.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value

@[expose] public section

set_option maxRecDepth 16384

noncomputable section

namespace Cert.Proof

open Idealize.ShloMosaic Idealize.SL.Sem

/-- The shapes the precondition broadcasts, on one device's blocks. -/
theorem facts_block : Cert.Pre_attendable_KernelIdeal.Facts := by
  constructor <;> decide

/-- The shapes the precondition broadcasts, on the whole arrays. -/
theorem facts_whole : Cert.Pre_attendable_ReferenceIdeal.Facts := by
  constructor <;> decide

/-- The two prints of the kernel run the same bodies. -/
theorem bodies_same : Cert.Kernel.defs₀ (F := Bits) = Cert.KernelIdeal.defs₀ (F := Bits) := by
  unfold Cert.Kernel.defs₀ Cert.KernelIdeal.defs₀
  congr 1
  funext l x
  fin_cases l
  rfl

/-- The two prints of the kernel have the same table of bodies. -/
theorem table_same : Cert.Kernel.defs (F := Bits) = Cert.KernelIdeal.defs (F := Bits) :=
  congrArg (Pipeline.defs (Cert.KernelIdeal.pcfgs (F := Bits))) bodies_same

/-- The kernel, at the chip's own floats, ends with its arguments unchanged and its counters at zero. -/
theorem frame_kernel : Cert.quiescent_Kernel := fun m ρ _ => by
  rw [table_same]
  exact (θ_run (Cert.KernelIdeal.defs (F := Bits)) _ _).mono (fun _ h => And.intro (fun c => (h.1 c).2) h.2)
    (Cert.KernelIdeal.Paged.run_main (F := Bits) m ρ)

/-- The kernel, at the extended reals. -/
theorem frame_kernelIdeal : Cert.quiescent_KernelIdeal := fun m ρ _ =>
  (θ_run Cert.KernelIdeal.defs _ _).mono (fun _ h => ⟨fun c => (h.1 c).2, h.2⟩)
    (Cert.KernelIdeal.Paged.run_main (F := Ideal) m ρ)

/-- The reference, at the extended reals. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From attendable arrays, every device ends with the reference's result. -/
theorem algebraic : Cert.algebraic_KernelIdeal_ReferenceIdeal_pre_attendable_KernelIdeal
    (hPre_attendable_KernelIdeal := facts_block) := fun m ρ m' ρ' hp hm => by
  have H : Cert.Value.Holds m m' := ⟨fun c => (hm c).1, fun c => (hm c).2.1, fun c => (hm c).2.2.1, fun c => (hm c).2.2.2.1,
    fun c => (hm c).2.2.2.2⟩
  have S := @Cert.Value.sound m m' facts_block hp H
  refine ⟨_, (θ_run Cert.KernelIdeal.defs _ _).mono
      (fun r h c => ⟨((h.1 c).1).trans (Cert.Value.left_eq_attention S H c), (h.1 c).2⟩)
      (Cert.KernelIdeal.Paged.run_main (F := Ideal) m ρ),
    (θ_run Cert.ReferenceIdeal.defs _ _).mono
      (fun r h => ⟨((h 0).1).trans (Cert.ReferenceIdeal.Paged.res_eq m' 0), (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts, facts_block, facts_whole,
    frame_kernel, frame_kernelIdeal, fun m ρ _ => frame_kernelIdeal m ρ trivial,
    frame_referenceIdeal, fun m ρ _ => frame_referenceIdeal m ρ trivial, trivial,
    algebraic⟩

end Cert.Proof

end
